-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonnegative [hPre_finite_and_nonnegative : Cert.Pre_finite_and_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonnegative [hPre_finite_and_nonnegative : Cert.Pre_finite_and_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_and_nonnegative [hKernelIdeal : Cert.KernelIdeal.Facts] [hPre_finite_and_nonnegative : Cert.Pre_finite_and_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_and_nonnegative [hReferenceIdeal : Cert.ReferenceIdeal.Facts] [hPre_finite_and_nonnegative : Cert.Pre_finite_and_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_and_nonnegative [hKernelIdeal : Cert.KernelIdeal.Facts] [hReferenceIdeal : Cert.ReferenceIdeal.Facts] [hPre_finite_and_nonnegative : Cert.Pre_finite_and_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_and_nonnegative : Cert.Pre_finite_and_nonnegative.Facts),
    quiescent_Kernel (hKernel := hKernel)
    ∧ quiescent_KernelIdeal (hKernelIdeal := hKernelIdeal)
    ∧ quiescent_KernelIdeal_pre_finite_and_nonnegative (hKernelIdeal := hKernelIdeal) (hPre_finite_and_nonnegative := hPre_finite_and_nonnegative)
    ∧ quiescent_ReferenceIdeal (hReferenceIdeal := hReferenceIdeal)
    ∧ quiescent_ReferenceIdeal_pre_finite_and_nonnegative (hReferenceIdeal := hReferenceIdeal) (hPre_finite_and_nonnegative := hPre_finite_and_nonnegative)
    ∧ preserves_Kernel_KernelIdeal
    ∧ algebraic_KernelIdeal_ReferenceIdeal_pre_finite_and_nonnegative (hKernelIdeal := hKernelIdeal) (hReferenceIdeal := hReferenceIdeal) (hPre_finite_and_nonnegative := hPre_finite_and_nonnegative)
-- ==== Pre_finite_and_nonnegative.lean ====
abbrev S8x128x512 : Shape := ⟨3, ![8, 128, 512]⟩
abbrev S8x400x512 : Shape := ⟨3, ![8, 400, 512]⟩
abbrev S8x128x400 : Shape := ⟨3, ![8, 128, 400]⟩
abbrev S8x400 : Shape := ⟨2, ![8, 400]⟩
abbrev S512 : Shape := ⟨1, ![512]⟩
abbrev S50000x512 : Shape := ⟨2, ![50000, 512]⟩
abbrev S50000 : Shape := ⟨1, ![50000]⟩
abbrev S1x512 : Shape := ⟨2, ![1, 512]⟩
abbrev S1 : Shape := ⟨1, ![1]⟩
abbrev S1x1 : Shape := ⟨2, ![1, 1]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S50000 : S_.BroadcastsInDim S50000 (![] : Fin 0 → Fin S50000.rank)
  reducesTo_S50000_S_d0 : S50000.ReducesTo [0] S_
  bcast_S_S8x400 : S_.BroadcastsInDim S8x400 (![] : Fin 0 → Fin S8x400.rank)
  reducesTo_S8x400_S_d0_1 : S8x400.ReducesTo [0, 1] S_

variable [Facts]

def fn_part1 {F : FTy → Type} [FloatOps F] (main_arg4 : IVec S8x400 32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_c_6 : IVec S_ 32 := constantI S_ 32 0#32
  let main_v19 : IVec S8x400 32 := broadcastInDim S8x400 ![] bcast_S_S8x400 main_c_6
  let main_v20 : IVec S8x400 1 := cmpi .sge main_arg4 main_v19
  let main_c_7 : IVec S_ 1 := constantI S_ 1 1#1
  let main_v21 : IVec S_ 1 := (fun x v => Host.reduce IntOp.andi x v reducesTo_S8x400_S_d0_1 h_S_) main_v20 main_c_7
  let main_v22 : IVec S_ 1 := andi main_v18 main_v21
  main_v22

def fn {F : FTy → Type} [FloatOps F] (main_arg0 : FVec F S8x128x512 .f32) (main_arg1 : FVec F S8x128x512 .f32) (main_arg2 : FVec F S8x400x512 .f32) (main_arg3 : FVec F S8x128x400 .f32) (main_arg4 : IVec S8x400 32) (main_arg5 : FVec F S512 .f32) (main_arg6 : FVec F S512 .f32) (main_arg7 : FVec F S50000x512 .f32) (main_arg8 : FVec F S50000 .f32) (main_arg9 : FVec F S1x512 .f32) (main_arg10 : FVec F S1 .f32) (main_arg11 : FVec F S1x512 .f32) (main_arg12 : FVec F S1 .f32) (main_arg13 : FVec F S1x512 .f32) (main_arg14 : FVec F S1 .f32) (main_arg15 : FVec F S1x1 .f32) : IVec S_ 1 :=
  let main_v0 : FVec F S512 .f32 := Host.absf main_arg5
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S512 .f32 := Host.absf main_arg6
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S50000x512 .f32 := Host.absf main_arg7
  let main_cst_2 : FVec F S_ .f32 := constant S_ .f32 0x7F800000#32
  let main_v10 : FVec F S50000x512 .f32 := broadcastInDim S50000x512 ![] bcast_S_S50000x512 main_cst_2
  let main_v11 : IVec S50000x512 1 := cmpf .olt main_v9 main_v10
  let main_c_3 : IVec S_ 1 := constantI S_ 1 1#1
  let main_v12 : IVec S_ 1 := (fun x v => Host.reduce IntOp.andi x v reducesTo_S50000x512_S_d0_1 h_S_) main_v11 main_c_3
  let main_v13 : IVec S_ 1 := andi main_v8 main_v12
  let main_v14 : FVec F S50000 .f32 := Host.absf main_arg8
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_v13 main_v16
-- ==== Kernel.lean ====
abbrev S8x128x512 : Shape := ⟨3, ![8, 128, 512]⟩
abbrev S8x400x512 : Shape := ⟨3, ![8, 400, 512]⟩
abbrev S8x128x400 : Shape := ⟨3, ![8, 128, 400]⟩
abbrev S8x400 : Shape := ⟨2, ![8, 400]⟩
abbrev S512 : Shape := ⟨1, ![512]⟩
abbrev S50000x512 : Shape := ⟨2, ![50000, 512]⟩
abbrev S50000 : Shape := ⟨1, ![50000]⟩
abbrev S1x512 : Shape := ⟨2, ![1, 512]⟩
abbrev S1 : Shape := ⟨1, ![1]⟩
abbrev S1x1 : Shape := ⟨2, ![1, 1]⟩
abbrev S1024x512 : Shape := ⟨2, ![1024, 512]⟩
abbrev S1024x400 : Shape := ⟨2, ![1024, 400]⟩
abbrev S8x400x128 : Shape := ⟨3, ![8, 400, 128]⟩
abbrev S3200x128 : Shape := ⟨2, ![3200, 128]⟩
abbrev S3200x512 : Shape := ⟨2, ![3200, 512]⟩
abbrev S50000x1 : Shape := ⟨2, ![50000, 1]⟩
abbrev S1024x1 : Shape := ⟨2, ![1024, 1]⟩
abbrev S128x512 : Shape := ⟨2, ![128, 512]⟩
abbrev S128x400 : Shape := ⟨2, ![128, 400]⟩
abbrev S400x512 : Shape := ⟨2, ![400, 512]⟩
abbrev S128x1 : Shape := ⟨2, ![128, 1]⟩
abbrev S128 : Shape := ⟨1, ![128]⟩
abbrev S1x1024 : Shape := ⟨2, ![1, 1024]⟩
abbrev S53248x512 : Shape := ⟨2, ![53248, 512]⟩
abbrev S4096x512 : Shape := ⟨2, ![4096, 512]⟩
abbrev S4096x1 : Shape := ⟨2, ![4096, 1]⟩
abbrev S4096x1024 : Shape := ⟨2, ![4096, 1024]⟩
abbrev S1024 : Shape := ⟨1, ![1024]⟩
abbrev S8x50000x128 : Shape := ⟨3, ![8, 50000, 128]⟩
abbrev S2048x512 : Shape := ⟨2, ![2048, 512]⟩
abbrev S2048x1 : Shape := ⟨2, ![2048, 1]⟩
abbrev S8x2048x128 : Shape := ⟨3, ![8, 2048, 128]⟩
abbrev S2048x1024 : Shape := ⟨2, ![2048, 1024]⟩
abbrev S2048x400 : Shape := ⟨2, ![2048, 400]⟩
abbrev S1x400 : Shape := ⟨2, ![1, 400]⟩
abbrev S400x128 : Shape := ⟨2, ![400, 128]⟩
abbrev S2048x128 : Shape := ⟨2, ![2048, 128]⟩
abbrev S1x128 : Shape := ⟨2, ![1, 128]⟩
abbrev S1x2048x128 : Shape := ⟨3, ![1, 2048, 128]⟩
abbrev S8x128x50000 : Shape := ⟨3, ![8, 128, 50000]⟩
abbrev S8x128x1 : Shape := ⟨3, ![8, 128, 1]⟩

abbrev nBuf : Space → Nat
  | .hbm => 38
  | .vmem => 37
  | .smem => 0
  | _ => 0

abbrev bufTy : (tb : Table) → Fin (tcTables nBuf tb) → BufTy
  | .hbm, ⟨0, _⟩ => ⟨S8x128x512, .f32⟩
  | .hbm, ⟨1, _⟩ => ⟨S8x128x512, .f32⟩
  | .hbm, ⟨2, _⟩ => ⟨S8x400x512, .f32⟩
  | .hbm, ⟨3, _⟩ => ⟨S8x128x400, .f32⟩
  | .hbm, ⟨4, _⟩ => ⟨S8x400, .i32⟩
  | .hbm, ⟨5, _⟩ => ⟨S512, .f32⟩
  | .hbm, ⟨6, _⟩ => ⟨S512, .f32⟩
  | .hbm, ⟨7, _⟩ => ⟨S50000x512, .f32⟩
  | .hbm, ⟨8, _⟩ => ⟨S50000, .f32⟩
  | .hbm, ⟨9, _⟩ => ⟨S1x512, .f32⟩
  | .hbm, ⟨10, _⟩ => ⟨S1, .f32⟩
  | .hbm, ⟨11, _⟩ => ⟨S1x512, .f32⟩
  | .hbm, ⟨12, _⟩ => ⟨S1, .f32⟩
  | .hbm, ⟨13, _⟩ => ⟨S1x512, .f32⟩
  | .hbm, ⟨14, _⟩ => ⟨S1, .f32⟩
  | .hbm, ⟨15, _⟩ => ⟨S1x1, .f32⟩
  | .hbm, ⟨16, _⟩ => ⟨S1024x512, .f32⟩
  | .hbm, ⟨17, _⟩ => ⟨S1024x512, .f32⟩
  | .hbm, ⟨18, _⟩ => ⟨S1024x400, .f32⟩
  | .hbm, ⟨19, _⟩ => ⟨S8x400x128, .f32⟩
  | .hbm, ⟨20, _⟩ => ⟨S3200x128, .f32⟩
  | .hbm, ⟨21, _⟩ => ⟨S3200x128, .bf16⟩
  | .hbm, ⟨22, _⟩ => ⟨S3200x512, .f32⟩
  | .hbm, ⟨23, _⟩ => ⟨S1x512, .f32⟩
  | .hbm, ⟨24, _⟩ => ⟨S1x512, .f32⟩
  | .hbm, ⟨25, _⟩ => ⟨S50000x1, .f32⟩
  | .hbm, ⟨26, _⟩ => ⟨S1, .f32⟩
  | .hbm, ⟨27, _⟩ => ⟨S1, .f32⟩
  | .hbm, ⟨28, _⟩ => ⟨S1x1, .f32⟩
  | .hbm, ⟨29, _⟩ => ⟨S1x1, .f32⟩
  | .hbm, ⟨30, _⟩ => ⟨S1024x1, .f32⟩
  | .hbm, ⟨31, _⟩ => ⟨S1024x512, .bf16⟩
  | .hbm, ⟨32, _⟩ => ⟨S1x1024, .f32⟩
  | .hbm, ⟨33, _⟩ => ⟨S53248x512, .bf16⟩
  | .hbm, ⟨34, _⟩ => ⟨S1x1024, .f32⟩
  | .hbm, ⟨35, _⟩ => ⟨S8x50000x128, .f32⟩
  | .hbm, ⟨36, _⟩ => ⟨S8x128x50000, .f32⟩
  | .hbm, ⟨37, _⟩ => ⟨S8x128x1, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x400, .f32⟩
  | .local _ .vmem, ⟨5, _⟩ => ⟨S128x400, .f32⟩
  | .local _ .vmem, ⟨6, _⟩ => ⟨S400x512, .f32⟩
  | .local _ .vmem, ⟨7, _⟩ => ⟨S400x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x1, .f32⟩
  | .local _ .vmem, ⟨14, _⟩ => ⟨S128x1, .f32⟩
  | .local _ .vmem, ⟨15, _⟩ => ⟨S128x1, .f32⟩
  | .local _ .vmem, ⟨16, _⟩ => ⟨S128x512, .bf16⟩
  | .local _ .vmem, ⟨17, _⟩ => ⟨S128x512, .bf16⟩
  | .local _ .vmem, ⟨18, _⟩ => ⟨S1024x512, .bf16⟩
  | .local _ .vmem, ⟨19, _⟩ => ⟨S4096x512, .f32⟩
  | .local _ .vmem, ⟨20, _⟩ => ⟨S4096x512, .f32⟩
  | .local _ .vmem, ⟨21, _⟩ => ⟨S4096x1, .f32⟩
  | .local _ .vmem, ⟨22, _⟩ => ⟨S4096x1, .f32⟩
  | .local _ .vmem, ⟨23, _⟩ => ⟨S4096x512, .bf16⟩
  | .local _ .vmem, ⟨24, _⟩ => ⟨S4096x512, .bf16⟩
  | .local _ .vmem, ⟨25, _⟩ => ⟨S1x1024, .f32⟩
  | .local _ .vmem, ⟨26, _⟩ => ⟨S2048x512, .bf16⟩
  | .local _ .vmem, ⟨27, _⟩ => ⟨S2048x512, .bf16⟩
  | .local _ .vmem, ⟨28, _⟩ => ⟨S1024x512, .bf16⟩
  | .local _ .vmem, ⟨29, _⟩ => ⟨S2048x1, .f32⟩
  | .local _ .vmem, ⟨30, _⟩ => ⟨S2048x1, .f32⟩
  | .local _ .vmem, ⟨31, _⟩ => ⟨S1x1024, .f32⟩
  | .local _ .vmem, ⟨32, _⟩ => ⟨S1x1024, .f32⟩
  | .local _ .vmem, ⟨33, _⟩ => ⟨S3200x128, .bf16⟩
  | .local _ .vmem, ⟨34, _⟩ => ⟨S8x400, .i32⟩
  | .local _ .vmem, ⟨35, _⟩ => ⟨S8x2048x128, .f32⟩
  | .local _ .vmem, ⟨36, _⟩ => ⟨S8x2048x128, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3200x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x400 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8x2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S8x128x512 : Shape := ⟨3, ![8, 128, 512]⟩
abbrev S8x400x512 : Shape := ⟨3, ![8, 400, 512]⟩
abbrev S8x128x400 : Shape := ⟨3, ![8, 128, 400]⟩
abbrev S8x400 : Shape := ⟨2, ![8, 400]⟩
abbrev S512 : Shape := ⟨1, ![512]⟩
abbrev S50000x512 : Shape := ⟨2, ![50000, 512]⟩
abbrev S50000 : Shape := ⟨1, ![50000]⟩
abbrev S1x512 : Shape := ⟨2, ![1, 512]⟩
abbrev S1 : Shape := ⟨1, ![1]⟩
abbrev S1x1 : Shape := ⟨2, ![1, 1]⟩
abbrev S_ : Shape := ⟨0, ![]⟩
abbrev S8x128 : Shape := ⟨2, ![8, 128]⟩
abbrev S8x128x1 : Shape := ⟨3, ![8, 128, 1]⟩
abbrev S1x1x512 : Shape := ⟨3, ![1, 1, 512]⟩
abbrev S8x128x50000 : Shape := ⟨3, ![8, 128, 50000]⟩
abbrev S1x1x50000 : Shape := ⟨3, ![1, 1, 50000]⟩
abbrev S1x1x1 : Shape := ⟨3, ![1, 1, 1]⟩
abbrev S8 : Shape := ⟨1, ![8]⟩
abbrev S8x1x1 : Shape := ⟨3, ![8, 1, 1]⟩
abbrev S128 : Shape := ⟨1, ![128]⟩
abbrev S1x128x1 : Shape := ⟨3, ![1, 128, 1]⟩
abbrev S8x1x400 : Shape := ⟨3, ![8, 1, 400]⟩
abbrev S8x128x400x1 : Shape := ⟨4, ![8, 128, 400, 1]⟩
abbrev S8x128x400x3 : Shape := ⟨4, ![8, 128, 400, 3]⟩

abbrev nBuf : Space → Nat
  | .hbm => 152
  | .vmem => 0
  | .smem => 0
  | _ => 0

abbrev hbmTy0_0 (i : Nat) : BufTy := match i % 128 with
  | 0 => ⟨S8x128x512, .f32⟩
  | 1 => ⟨S8x128x512, .f32⟩
  | 2 => ⟨S8x400x512, .f32⟩
  | 3 => ⟨S8x128x400, .f32⟩
  | 4 => ⟨S8x400, .i32⟩
  | 5 => ⟨S512, .f32⟩
  | 6 => ⟨S512, .f32⟩
  | 7 => ⟨S50000x512, .f32⟩
  | 8 => ⟨S50000, .f32⟩
  | 9 => ⟨S1x512, .f32⟩
  | 10 => ⟨S1, .f32⟩
  | 11 => ⟨S1x512, .f32⟩
  | 12 => ⟨S1, .f32⟩
  | 13 => ⟨S1x512, .f32⟩
  | 14 => ⟨S1, .f32⟩
  | 15 => ⟨S1x1, .f32⟩
  | 16 => ⟨S_, .f32⟩
  | 17 => ⟨S8x128, .f32⟩
  | 18 => ⟨S8x128x1, .f32⟩
  | 19 => ⟨S_, .f32⟩
  | 20 => ⟨S8x128x1, .f32⟩
  | 21 => ⟨S8x128x1, .f32⟩
  | 22 => ⟨S_, .i32⟩
  | 23 => ⟨S_, .f32⟩
  | 24 => ⟨S8x128, .f32⟩
  | 25 => ⟨S8x128x1, .f32⟩
  | 26 => ⟨S_, .f32⟩
  | 27 => ⟨S8x128x1, .f32⟩
  | 28 => ⟨S8x128x1, .f32⟩
  | 29 => ⟨S8x128x512, .f32⟩
  | 30 => ⟨S8x128x512, .f32⟩
  | 31 => ⟨S8x128x512, .f32⟩
  | 32 => ⟨S_, .f32⟩
  | 33 => ⟨S_, .f32⟩
  | 34 => ⟨S_, .f32⟩
  | 35 => ⟨S_, .f32⟩
  | 36 => ⟨S8x128, .f32⟩
  | 37 => ⟨S8x128x1, .f32⟩
  | 38 => ⟨S8x128x1, .f32⟩
  | 39 => ⟨S8x128x1, .f32⟩
  | 40 => ⟨S_, .f32⟩
  | 41 => ⟨S_, .i1⟩
  | 42 => ⟨S_, .f32⟩
  | 43 => ⟨S_, .f32⟩
  | 44 => ⟨S8x128x1, .f32⟩
  | 45 => ⟨S8x128x1, .f32⟩
  | 46 => ⟨S8x128x1, .f32⟩
  | 47 => ⟨S8x128x512, .f32⟩
  | 48 => ⟨S8x128x512, .f32⟩
  | 49 => ⟨S1x1x512, .f32⟩
  | 50 => ⟨S8x128x512, .f32⟩
  | 51 => ⟨S8x128x512, .f32⟩
  | 52 => ⟨S_, .f32⟩
  | 53 => ⟨S8x128x1, .f32⟩
  | 54 => ⟨S8x128x1, .f32⟩
  | 55 => ⟨S8x128x512, .f32⟩
  | 56 => ⟨S8x128x512, .f32⟩
  | 57 => ⟨S1x1x512, .f32⟩
  | 58 => ⟨S8x128x512, .f32⟩
  | 59 => ⟨S8x128x512, .f32⟩
  | 60 => ⟨S8x128x50000, .f32⟩
  | 61 => ⟨S1x1x50000, .f32⟩
  | 62 => ⟨S8x128x50000, .f32⟩
  | 63 => ⟨S8x128x50000, .f32⟩
  | 64 => ⟨S8x128x512, .f32⟩
  | 65 => ⟨S8x128x1, .f32⟩
  | 66 => ⟨S1x1x1, .f32⟩
  | 67 => ⟨S8x128x1, .f32⟩
  | 68 => ⟨S8x128x1, .f32⟩
  | 69 => ⟨S8x128x1, .f32⟩
  | 70 => ⟨S8x128x1, .f32⟩
  | 71 => ⟨S1x1x1, .f32⟩
  | 72 => ⟨S8x128x1, .f32⟩
  | 73 => ⟨S8x128x1, .f32⟩
  | 74 => ⟨S8x128x1, .f32⟩
  | 75 => ⟨S8x128x1, .f32⟩
  | 76 => ⟨S1x1x1, .f32⟩
  | 77 => ⟨S8x128x1, .f32⟩
  | 78 => ⟨S8x128x1, .f32⟩
  | 79 => ⟨S_, .f32⟩
  | 80 => ⟨S8x128x1, .f32⟩
  | 81 => ⟨S8x128x1, .f32⟩
  | 82 => ⟨S8x128x1, .f32⟩
  | 83 => ⟨S8x128x1, .f32⟩
  | 84 => ⟨S_, .f32⟩
  | 85 => ⟨S8x128x1, .f32⟩
  | 86 => ⟨S8x128x1, .f32⟩
  | 87 => ⟨S_, .f32⟩
  | 88 => ⟨S8x128x1, .f32⟩
  | 89 => ⟨S8x128x1, .f32⟩
  | 90 => ⟨S8, .i32⟩
  | 91 => ⟨S8x1x1, .i32⟩
  | 92 => ⟨S128, .i32⟩
  | 93 => ⟨S1x128x1, .i32⟩
  | 94 => ⟨S8x1x400, .i32⟩
  | 95 => ⟨S_, .f32⟩
  | 96 => ⟨S8x128x50000, .f32⟩
  | 97 => ⟨S_, .i32⟩
  | 98 => ⟨S8x1x1, .i32⟩
  | 99 => ⟨S8x1x1, .i1⟩
  | 100 => ⟨S_, .i32⟩
  | 101 => ⟨S8x1x1, .i32⟩
  | 102 => ⟨S8x1x1, .i32⟩
  | 103 => ⟨S8x1x1, .i32⟩
  | 104 => ⟨S_, .i32⟩
  | 105 => ⟨S1x128x1, .i32⟩
  | 106 => ⟨S1x128x1, .i1⟩
  | 107 => ⟨S_, .i32⟩
  | 108 => ⟨S1x128x1, .i32⟩
  | 109 => ⟨S1x128x1, .i32⟩
  | 110 => ⟨S1x128x1, .i32⟩
  | 111 => ⟨S_, .i32⟩
  | 112 => ⟨S8x1x400, .i32⟩
  | 113 => ⟨S8x1x400, .i1⟩
  | 114 => ⟨S_, .i32⟩
  | 115 => ⟨S8x1x400, .i32⟩
  | 116 => ⟨S8x1x400, .i32⟩
  | 117 => ⟨S8x1x400, .i32⟩
  | 118 => ⟨S8x128x400, .i32⟩
  | 119 => ⟨S8x128x400, .i32⟩
  | 120 => ⟨S8x128x400, .i32⟩
  | 121 => ⟨S8x128x400x1, .i32⟩
  | 122 => ⟨S8x128x400x1, .i32⟩
  | 123 => ⟨S8x128x400x1, .i32⟩
  | 124 => ⟨S8x128x400x3, .i32⟩
  | 125 => ⟨S8x128x50000, .f32⟩
  | 126 => ⟨S_, .f32⟩
  | 127 => ⟨S8x128, .f32⟩
  | _ => ⟨S8x128x512, .f32⟩

abbrev hbmTy0_1 (i : Nat) : BufTy := match i % 128 with
  | 0 => ⟨S_, .f32⟩
  | 1 => ⟨S8x128, .f32⟩
  | 2 => ⟨S8x128, .f32⟩
  | 3 => ⟨S8x128x1, .f32⟩
  | 4 => ⟨S8x128x50000, .f32⟩
  | 5 => ⟨S8x128x50000, .f32⟩
  | 6 => ⟨S8x128x50000, .f32⟩
  | 7 => ⟨S_, .f32⟩
  | 8 => ⟨S8x128, .f32⟩
  | 9 => ⟨S8x128x1, .f32⟩
  | 10 => ⟨S8x128x50000, .f32⟩
  | 11 => ⟨S8x128x50000, .f32⟩
  | 12 => ⟨S8x128x50000, .f32⟩
  | 13 => ⟨S8x128x50000, .f32⟩
  | 14 => ⟨S_, .f32⟩
  | 15 => ⟨S8x128x1, .f32⟩
  | 16 => ⟨S8x128x1, .f32⟩
  | 17 => ⟨S8x128x50000, .f32⟩
  | 18 => ⟨S8x128x50000, .f32⟩
  | 19 => ⟨S8x128x50000, .f32⟩
  | 20 => ⟨S_, .f32⟩
  | 21 => ⟨S8x128x50000, .f32⟩
  | 22 => ⟨S8x128x50000, .f32⟩
  | 23 => ⟨S8x128x50000, .f32⟩
  | _ => ⟨S8x128x512, .f32⟩

abbrev hbmTy (i : Nat) : BufTy := match i / 128 with
  | 0 => hbmTy0_0 i
  | 1 => hbmTy0_1 i
  | _ => ⟨S8x128x512, .f32⟩

abbrev bufTy : (tb : Table) → Fin (tcTables nBuf tb) → BufTy
  | .hbm, ⟨i, _⟩ => hbmTy i
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_cst_0 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_cst_1 : Ref sig .tc := ⟨.hbm, 33, rfl⟩
abbrev main_call0_call0_v8 : Ref sig .tc := ⟨.hbm, 34, rfl⟩
abbrev main_call0_call0_cst_2 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_cst_3 : Ref sig .tc := ⟨.hbm, 40, rfl⟩
abbrev main_call0_call0_v13 : Ref sig .tc := ⟨.hbm, 41, rfl⟩
abbrev main_call0_call0_cst_4 : Ref sig .tc := ⟨.hbm, 42, rfl⟩
abbrev main_call0_call0_call0_v0 : Ref sig .tc := ⟨.hbm, 43, rfl⟩
abbrev main_call0_call0_call0_v1 : Ref sig .tc := ⟨.hbm, 44, rfl⟩
abbrev main_call0_v0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_2 : Ref sig .tc := ⟨.hbm, 84, rfl⟩
abbrev main_v41 : Ref sig .tc := ⟨.hbm, 85, rfl⟩
abbrev main_v42 : Ref sig .tc := ⟨.hbm, 86, rfl⟩
abbrev main_cst_3 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_4 : Ref sig .tc := ⟨.hbm, 95, rfl⟩
abbrev main_v50 : Ref sig .tc := ⟨.hbm, 96, rfl⟩
abbrev main_c_5 : Ref sig .tc := ⟨.hbm, 97, rfl⟩
abbrev main_v51 : Ref sig .tc := ⟨.hbm, 98, rfl⟩
abbrev main_v52 : Ref sig .tc := ⟨.hbm, 99, rfl⟩
abbrev main_c_6 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_c_7 : Ref sig .tc := ⟨.hbm, 104, rfl⟩
abbrev main_v56 : Ref sig .tc := ⟨.hbm, 105, rfl⟩
abbrev main_v57 : Ref sig .tc := ⟨.hbm, 106, rfl⟩
abbrev main_c_8 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_9 : Ref sig .tc := ⟨.hbm, 111, rfl⟩
abbrev main_v61 : Ref sig .tc := ⟨.hbm, 112, rfl⟩
abbrev main_v62 : Ref sig .tc := ⟨.hbm, 113, rfl⟩
abbrev main_c_10 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_11 : Ref sig .tc := ⟨.hbm, 126, rfl⟩
abbrev main_v74 : Ref sig .tc := ⟨.hbm, 127, rfl⟩
abbrev main_cst_12 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_13 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_14 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_15 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩

abbrev nD : Nat := 1
abbrev τ : Topo := Topo.v7x

variable {F : FTy → Type} [FloatOps F]
-- ==== Proof.RegionRel.lean ====
/-
  A PROGRAM OF SEVERAL REGIONS WHOSE BUFFERS ARE KNOWN ONLY UP TO A PREDICATE.

  A region that leaves some part of a result undetermined (rows of a result computed from the part of a block that lies outside its
  array) hands the next region an array at contents that no launch-time expression names. The thread state between the items of
  @main is therefore `St Q E`: the unscoped buffers held at SOME valuation that meets `Q`. A host stretch takes a predicate to one that
  holds after its operations (`hostRel`), a region to one that follows from what its windows' arrays may hold (`regionRel`), the region's
  proof data being chosen from the valuation at its entry. `θ_run_rel` launches a list of such items.

  Every item is a `HostSeg` of the regions kit: a region is entered by `RDat.RegionSeg.wp` on its own ghost state, which a second copy of
  the rounds algebra supplies.
-/
module

public import Idealize.ShloMosaic.Lib.Pipeline.FrameTail
public import Idealize.ShloMosaic.Lib.Pipeline.FrameSuffix
public import Idealize.ShloMosaic.Lib.Pipeline.RegionsLoop
public import Idealize.ShloMosaic.Lib.Pipeline.RegionArraysF
public import Idealize.ShloMosaic.Lib.Pipeline.DatRel
public import Idealize.ShloMosaic.Lib.Pipeline.Kit

@[expose] public section

noncomputable section

namespace Cert.Rel

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.Rounds Idealize.ShloMosaic.Pipeline

variable {nD : Nat} {τ : Topo} {sig : RefSig} {Val : EltTy → Type} {Λ₀ : Idealize.SL.Sem.Labels} {P : Type} [Fintype P] [DecidableEq P]
variable [∀ e, Nonempty (Val e)]

/-- The user algebra: one copy of the rounds algebra for the launch, one for the regions. -/
abbrev U2 (sig : RefSig) (nD : Nat) (τ : Topo) : Type := UR sig nD τ × UR sig nD τ

local notation "𝕄" => MT nD τ sig Unit Val ℕ (U2 sig nD τ) ℕ

/-- The regions' copy, as it sits in the machine's algebra. -/
abbrev EP2 : Emb (URounds (GSem nD τ sig) Unit) (MT nD τ sig Unit Val ℕ (U2 sig nD τ) ℕ) := embR

variable (cfgs : P → Cfg sig Λ₀) (defs₀ : Defs nD τ sig Val Λ₀) (𝒱₀ : Variants)

/-- No level is assigned. -/
abbrev L0 : GSem nD τ sig → Finset Unit := fun _ => ∅
/-- No level is assigned. -/
abbrev lv0 : GSem nD τ sig → Unit → ℕ := fun _ _ => 0

/-- What one pipeline's region spends: its cells' ghost state and its launch tokens. -/
def ghost (p : P) (c : Dev nD) : sProp 𝕄 := iprop(cellsGhost cfgs EP2 p c ∗ toksInit cfgs EP2 p c)

/-- What rides beside the buffers: the generator register at some state, and the core owing nothing. -/
def rest (c : Dev nD) : sProp 𝕄 :=
  iprop((∃ r, prngReg c r) ∗ ∃ W, owes (c.tc : Thread nD τ) (0 : CellTallies nD τ sig Unit) W)

/-- The unscoped buffers at some contents that meet `Q`. -/
def heldSome (Q : Dev nD → Valuation τ sig Val → Prop) (c : Dev nD) : sProp 𝕄 :=
  iprop(∃ W, ⌜Q c W⌝ ∗ StableHlo.held (c.tc : Thread nD τ) (ucRefs τ sig) W)

/-- The thread state between two items: the buffers at some contents that meet `Q`, the rest, and what later regions spend. -/
def St (Q : Dev nD → Valuation τ sig Val → Prop) (E : Dev nD → sProp 𝕄) (c : Dev nD) : sProp 𝕄 :=
  iprop(heldSome Q c ∗ rest c ∗ E c)

-- `iapply` of a rule stated for any thread, at the TensorCore thread `c.tc`, unifies only when unification may unfold plain
-- definitions in a metavariable's type
set_option backward.isDefEq.respectTransparency.types false in
/-- A HOST STRETCH from `Q` to `Q'`, where `Q'` holds of the contents after the operations whenever `Q` holds before them. -/
def hostRel (ops : List (HloOp τ sig Val)) (hS : ops.Forall fun op => op.bufs ⊆ StableHlo.tcRefs τ sig)
    (hf : ops.Forall fun op => op.fresh = ∅) (Q Q' : Dev nD → Valuation τ sig Val → Prop)
    (h : ∀ c W, Q c W → Q' c (StableHlo.after ops W)) (E : Dev nD → sProp 𝕄) :
    HostSeg (Ix := Unit) (Name := ℕ) (U := U2 sig nD τ) (Lvl := ℕ) (fun q => Cfg.toPCfg (Val := Val) (cfgs q)) defs₀ 𝒱₀ L0 lv0 where
  prog := StableHlo.seq ops
  pre := St Q E
  post := St Q' E
  run c {β} k K := by
    have hseq := fun W => StableHlo.wp_seq (defs := Pipeline.defs (fun q => Cfg.toPCfg (Val := Val) (cfgs q)) defs₀) (Variants.lift 𝒱₀) none Set.univ c (ucRefs τ sig) k (K := K) ops
      (fun op ho => sub_ucRefs op ((List.forall_iff_forall_mem.mp hS) op ho))
      (fun op ho => (List.forall_iff_forall_mem.mp hf) op ho) W
    unfold St heldSome
    iintro ⟨Hk, Hbd, ⟨⟨%W, %hQ, Hh⟩, HR⟩, -⟩
    iapply (hseq W) $$ [Hbd Hh]
    · isplitl [Hbd] <;> iassumption
    iintro ⟨Hbd, Hh⟩
    iapply Hk
    isplitl [Hbd]; · iexact Hbd
    isplitl [Hh]
    · iexists _
      isplitr
      · ipureintro; exact h c W hQ
      iexact Hh
    iexact HR

/-- The arrays after a relational region: at some contents that each may hold. -/
theorem arraysAt_some {cfg : Cfg sig Λ₀} {c : Dev nD} (dat : Dat τ Val Unit ℕ (U2 sig nD τ) ℕ cfg c) (fgt : Fin cfg.W → Bool)
    (Rl : (w : Fin cfg.W) → Fin cfg.N → ((cfg.win w).block.Idx → Val (cfg.win w).elt) → Prop) (n : Nat) :
    ((dat.toRRel fgt Rl).arraysAt n : sProp 𝕄) ⊢ iprop(∃ A : (w : Fin cfg.W) → Buf Val ((cfg.win w).arr.view.loc (c.tc : Thread nD τ)),
      ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

section Region

variable (pd : Valuation τ sig Val → (p : P) → (c : Dev nD) → Dat τ Val Unit ℕ (U2 sig nD τ) ℕ (cfgs p) c)
  (fgt : (p : P) → Fin (cfgs p).W → Bool)
  (Rl : Valuation τ sig Val → (p : P) → (w : Fin (cfgs p).W) → Fin (cfgs p).N → (((cfgs p).win w).block.Idx → Val ((cfgs p).win w).elt) → Prop)

/-- The relational proof data of every pipeline, at the valuation the region at hand is entered from. -/
abbrev rds (W : Valuation τ sig Val) : (p : P) → (c : Dev nD) → RDat τ Val Unit ℕ (U2 sig nD τ) ℕ (pin (fun q => Cfg.toPCfg (Val := Val) (cfgs q)) (fun q => (cfgs q).toPCfg_adm) p) c :=
  fun p c => (pd W p c).toRRel (fgt p) (Rl W p)

/-- ONE REGION entered at the valuation `W` as a record of the regions kit: left at some valuation whose windows' arrays hold what
    the proof data allow and whose other buffers hold what `W` gives. -/
def regionAt (p : P) (kit : PLaunchFacts (nD := nD) (τ := τ) (fun q => Cfg.toPCfg (Val := Val) (cfgs q)) p) (W : Valuation τ sig Val)
    (hbody : ∀ c, BodyObligationRel (pd W p c) defs₀ 𝒱₀ () Set.univ (fgt p) (Rl W p))
    (hΦ : ∀ c t, (pd W p c).Φ t = ΦA (cfgs p).spec c) (howed : ∀ c t, (pd W p c).owed t = 0)
    (hrec : ∀ c, (pd W p c).recorded 0 = Set.univ)
    (hshare : ∀ c w, (pd W p c).share w = fullShare)
    (hA : ∀ c w, (pd W p c).A w = W (Proc.devRef .tc (arrRef (cfgs p).spec w))) :
    RDat.RegionSeg (fun q => Cfg.toPCfg (Val := Val) (cfgs q)) (fun q => (cfgs q).toPCfg_adm) (rds cfgs pd fgt Rl W) () defs₀ 𝒱₀ L0 lv0 p where
  win := kit.win.to₀
  block_pos := kit.block_pos
  stage_whole := kit.stage_whole
  K := PEmpty
  osem := fun k => k.elim
  ho := OwnSemFacts.none _
  hbody c := (hbody c).toRRel
  hwaits := RDat.hwaits_of_owed_zero (fun q => Cfg.toPCfg (Val := Val) (cfgs q)) (fun q => (cfgs q).toPCfg_adm) (rds cfgs pd fgt Rl W) () L0 lv0 p howed
  pre c := iprop(StableHlo.held (c.tc : Thread nD τ) (ucRefs τ sig) W ∗ rest c)
  post c := iprop(heldSome (fun c' W' => (∀ w, (rds cfgs pd fgt Rl W p c').ArrAt w (cfgs p).N (W' (Proc.devRef .tc (arrRef (cfgs p).spec w))))
    ∧ ∀ b : Ref sig .tc, (∀ w, arrRef (cfgs p).spec w ≠ b) → W' (Proc.devRef .tc b) = W (Proc.devRef .tc b)) c ∗ rest c)
  X c := iprop(∃ r, prngReg c r)
  Y c := iprop(∃ r, prngReg c r)
  Z c := unscopedRest (Ix := Unit) (Name := ℕ) (U := U2 sig nD τ) (Lvl := ℕ) (cfgs p).spec c (fun b => W (Proc.devRef .tc b))
  hentry c := by
    rw [ownSems0_none,
      show StableHlo.held (c.tc : Thread nD τ) (ucRefs τ sig) W = unscopedBufs c (fun b => W (Proc.devRef .tc b))
        from (unscopedBufs_held (Ix := Unit) (Name := ℕ) (U := U2 sig nD τ) (Lvl := ℕ) c W).symm]
    have hsplit := arrays_of_unscopedBufs (p := p) (fun q => Cfg.toPCfg (Val := Val) (cfgs q)) (fun q => (cfgs q).toPCfg_adm) (pd W) kit.win kit.arr_whole c (hshare c)
      (fun b => W (Proc.devRef .tc b)) (fun w => hA c w)
    show _ ⊢ |={Set.univ}=> iprop((pd W p c).arrays ((pd W p c).arrAt · 0)
        ∗ prefHeld (Cfg.toPCfg (Val := Val) (cfgs p)).pre c (fun _ => fullShare) ((cfgs p).toPCfg_adm (Val := Val)).1
        ∗ (pd W p c).owesAt () 0 ∗ _ ∗ _)
    unfold rest
    iintro ⟨⟨Hub, Hp, HO⟩, -, -⟩
    ihave H := hsplit $$ Hub
    icases H with ⟨Ha, Hrest⟩
    imodintro
    isplitl [Ha]; · iexact Ha
    isplitr
    · rw [prefHeld_of_none _ rfl]; iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitl [Hp]; · iexact Hp
    iexact Hrest
  hin c := (show _ ⊢ ΦA (cfgs p).spec c from by
    unfold ΦA; iintro ⟨Hp, -, Hr⟩
    isplitl [Hr] <;> iassumption).trans (Entails.of_eq (hΦ c 0).symm)
  hout c := (Entails.of_eq (hΦ c (Fin.last _))).trans (by
    rw [ownSems0_none]; unfold ΦA
    iintro ⟨Hr, Hp⟩
    isplitl [Hp]; · iexact Hp
    isplitr; · iempintro
    iexact Hr)
  hexit c := by
    have harr := arraysAt_some (pd W p c) (fgt p) (Rl W p) (cfgs p).N
    have hjoin := fun A => unscopedBufs_of_arrays (p := p) (fun q => Cfg.toPCfg (Val := Val) (cfgs q)) (fun q => (cfgs q).toPCfg_adm) (Ix := Unit) (Name := ℕ) (U := U2 sig nD τ) (Lvl := ℕ)
      kit.win kit.arr_whole c (pd W) (hshare c)
      (fun b => W (Proc.devRef .tc b)) (fun b => withArrays (cfgs p).spec c W A (Proc.devRef .tc b)) A
      (fun w => (withArrays_arr (cfgs p).spec kit.win.arr_inj c W A w).symm)
      (fun b hb => withArrays_of_ne (cfgs p).spec c W A b
        fun w h => hb (h ▸ Finset.mem_image.mpr ⟨w, Finset.mem_univ _, rfl⟩))
    unfold heldSome rest
    iintro ⟨Ha, HO, Hp, Hrest⟩
    ihave Ha := harr $$ Ha
    icases Ha with ⟨%A, %hArr, Ha⟩
    imodintro
    isplitl [Ha Hrest]
    · iexists (withArrays (cfgs p).spec c W A)
      isplitr
      · ipureintro
        exact ⟨fun w => by rw [withArrays_arr (cfgs p).spec kit.win.arr_inj c W A w]; exact hArr w,
          fun b hb => withArrays_of_ne (cfgs p).spec c W A b hb⟩
      rw [← unscopedBufs_held (Ix := Unit) (Name := ℕ) (U := U2 sig nD τ) (Lvl := ℕ) c (withArrays (cfgs p).spec c W A)]
      iapply (hjoin A); isplitl [Ha] <;> iassumption
    isplitl [Hp]; · iexact Hp
    icases HO with ⟨%Wd, -, HO⟩
    iexists Wd
    rw [← howed c (Fin.last _)]
    iexact HO

-- as for `hostRel`
set_option backward.isDefEq.respectTransparency.types false in
/-- A REGION from `Q` to `Q'`, as an item of @main: `Q'` holds of every valuation whose windows' arrays hold what the proof data
    at the entry valuation allow and whose other buffers are as at entry. -/
def regionRel (phinj : Function.Injective (cellOf (nD := nD) (τ := τ) (pin (fun q => Cfg.toPCfg (Val := Val) (cfgs q)) (fun q => (cfgs q).toPCfg_adm))))
    (p : P) (kit : PLaunchFacts (nD := nD) (τ := τ) (fun q => Cfg.toPCfg (Val := Val) (cfgs q)) p)
    (hbody : ∀ W c, BodyObligationRel (pd W p c) defs₀ 𝒱₀ () Set.univ (fgt p) (Rl W p))
    (hΦ : ∀ W c t, (pd W p c).Φ t = ΦA (cfgs p).spec c) (howed : ∀ W c t, (pd W p c).owed t = 0)
    (hrec : ∀ W c, (pd W p c).recorded 0 = Set.univ) (hshare : ∀ W c w, (pd W p c).share w = fullShare)
    (hA : ∀ W c w, (pd W p c).A w = W (Proc.devRef .tc (arrRef (cfgs p).spec w)))
    (Q Q' : Dev nD → Valuation τ sig Val → Prop)
    (hQ : ∀ c W W', Q c W → (∀ w, ((pd W p c).toRRel (fgt p) (Rl W p)).ArrAt w (cfgs p).N (W' (Proc.devRef .tc (arrRef (cfgs p).spec w)))) →
      (∀ b : Ref sig .tc, (∀ w, arrRef (cfgs p).spec w ≠ b) → W' (Proc.devRef .tc b) = W (Proc.devRef .tc b)) → Q' c W')
    (E : Dev nD → sProp 𝕄) :
    HostSeg (Ix := Unit) (Name := ℕ) (U := U2 sig nD τ) (Lvl := ℕ) (fun q => Cfg.toPCfg (Val := Val) (cfgs q)) defs₀ 𝒱₀ L0 lv0 where
  prog := Prog.lift (.customCall (entry p) ())
  pre := St Q fun c => iprop(ghost cfgs p c ∗ E c)
  post := St Q' E
  run c {β} k K := by
    have hwp := fun W => RDat.RegionSeg.wp (fun q => Cfg.toPCfg (Val := Val) (cfgs q)) (fun q => (cfgs q).toPCfg_adm) (rds cfgs pd fgt Rl W) () phinj EP2 defs₀ 𝒱₀ L0 lv0
      (regionAt cfgs defs₀ 𝒱₀ pd fgt Rl p kit W (hbody W) (hΦ W) (howed W) (hrec W) (hshare W) (hA W)) c none (fun u hu => nomatch hu) k K
    show _ ⊢ wp frame (wpE (Pipeline.defs (fun q => Cfg.toPCfg (Val := Val) (cfgs q)) defs₀) (Variants.lift 𝒱₀) (c.tc : Thread nD τ) none) Set.univ (.op (.customCall (entry p) ()) k) K
    unfold St heldSome ghost
    iintro ⟨Hk, Hbd, ⟨⟨%W, %hW, Hh⟩, HR, ⟨Hg, Ht⟩, HE⟩, HL⟩
    iapply (hwp W)
    isplitl [Hk HE]
    · iintro ⟨Hbd, Hpost⟩
      iapply Hk
      isplitl [Hbd]; · iexact Hbd
      unfold regionAt heldSome
      icases Hpost with ⟨⟨%W', %hW', Hh⟩, HR⟩
      isplitl [Hh]
      · iexists W'
        isplitr
        · ipureintro; exact hQ c W W' hW hW'.1 hW'.2
        iexact Hh
      isplitl [HR]; · iexact HR
      iexact HE
    isplitl [Hbd]; · iexact Hbd
    isplitl [Hh HR]
    · unfold regionAt
      isplitl [Hh]; · iexact Hh
      iexact HR
    isplitl [HL]; · iexact HL
    isplitl [Hg]; · iexact Hg
    iexact Ht

end Region

section Launch

/-- The regions' ghost state, from the launch element's second component. -/
theorem fund_ghosts (hinj : Function.Injective (cellOf (nD := nD) (τ := τ) cfgs)) :
    (ownU (initOf (cells cfgs hinj) (launchToks cfgs hinj), initOf (cells cfgs hinj) (launchToks cfgs hinj)) : sProp 𝕄)
      ⊢ |={Set.univ}=> iprop(BI.own (embL (initOf (cells cfgs hinj) (launchToks cfgs hinj)))
        ∗ bigSep Finset.univ fun c : Dev nD => bigSep Finset.univ fun p : P => ghost cfgs p c) := by
  have hfund := fund_ghost (nD := nD) (τ := τ) (Val := Val) (Ix := Unit) (Name := ℕ) (U := U2 sig nD τ) (Lvl := ℕ) cfgs EP2 hinj
  refine (ownU_pair _ _).trans ?_
  iintro ⟨Hl, Hr⟩
  imod hfund $$ Hr with ⟨Hg, Ht⟩
  imodintro
  isplitl [Hl]; · iexact Hl
  have hj : iprop((bigSep Finset.univ fun c : Dev nD => bigSep Finset.univ fun p => cellsGhost cfgs EP2 p c)
      ∗ (bigSep Finset.univ fun c : Dev nD => bigSep Finset.univ fun p => (toksInit cfgs EP2 p c : sProp 𝕄)))
      ⊢ bigSep Finset.univ fun c : Dev nD => bigSep Finset.univ fun p : P => ghost cfgs p c := by
    unfold ghost
    simp only [bigSep_sep']; exact BI.Entails.refl _
  iapply hj
  isplitl [Hg] <;> iassumption

/-- THE LAUNCH: a program that is a list of such items, chained from the launch contents with every region's ghost state to `Q`, run from
    memory `m` with zero counters: every weakly fair execution terminates, every unscoped buffer ends at the contents of some
    valuation that meets `Q`, and every counter is at zero (no semaphore is unscoped). -/
theorem θ_run_rel (hinj : Function.Injective (cellOf (nD := nD) (τ := τ) cfgs))
    (pd0 : (p : P) → (c : Dev nD) → Dat τ Val Unit ℕ (U2 sig nD τ) ℕ (cfgs p) c)
    (hsem : ∀ sm : SemLoc sig, sm.isScoped .tc = true)
    (m : (ℓ : Loc nD τ sig) → Buf Val ℓ) (g : Dev nD → PrngReg)
    (main : Dev nD → Prog (TpuEff nD τ sig Val (Pipeline.Sig Λ₀ P fun p => (Cfg.toPCfg (Val := Val) (cfgs p)).Adm) .tc) PUnit)
    (items : List (HostSeg (Ix := Unit) (Name := ℕ) (U := U2 sig nD τ) (Lvl := ℕ) (fun q => Cfg.toPCfg (Val := Val) (cfgs q)) defs₀ 𝒱₀ L0 lv0))
    (hmain : ∀ c, main c = Pipeline.chain (items.map (·.prog)))
    (Q : Dev nD → Valuation τ sig Val → Prop)
    (hch : ∀ c, Seg.ChainsAt c (St (fun c W => W = StableHlo.launchContents m c) fun c => bigSep Finset.univ fun p : P => ghost cfgs p c)
      (items.map fun H => (Seg.host H : Seg (fun q => Cfg.toPCfg (Val := Val) (cfgs q)) (fun q => (cfgs q).toPCfg_adm) pd0 () defs₀ 𝒱₀ L0 lv0)) (St Q fun _ => iprop(emp))) :
    θ_run (Pipeline.defs (fun q => Cfg.toPCfg (Val := Val) (cfgs q)) defs₀) (onTc main) ⟨m, fun _ => 0, g⟩ fun r =>
      (∀ c : Dev nD, ∃ W, Q c W ∧ ∀ b ∈ ucRefs τ sig, r.2.mem (c, b) = W b) ∧ r.2.sem = fun _ => 0 := by
  have hmap : (items.map fun H => (Seg.host H : Seg (fun q => Cfg.toPCfg (Val := Val) (cfgs q)) (fun q => (cfgs q).toPCfg_adm) pd0 () defs₀ 𝒱₀ L0 lv0)).map Seg.prog = items.map (·.prog) := by
    rw [List.map_map]; rfl
  have hpipes : ∀ l : List (HostSeg (Ix := Unit) (Name := ℕ) (U := U2 sig nD τ) (Lvl := ℕ) (fun q => Cfg.toPCfg (Val := Val) (cfgs q)) defs₀ 𝒱₀ L0 lv0),
      Seg.pipes (l.map fun H => (Seg.host H : Seg (fun q => Cfg.toPCfg (Val := Val) (cfgs q)) (fun q => (cfgs q).toPCfg_adm) pd0 () defs₀ 𝒱₀ L0 lv0)) = [] := fun l => by
    induction l with
    | nil => rfl
    | cons H l ih => rw [List.map_cons, Seg.pipes_host, ih]
  have hlast : ∀ c : Dev nD, (St Q (fun _ => iprop(emp)) c : sProp 𝕄) ⊢ iprop(heldSome Q c ∗ ∃ W, owes (c.tc : Thread nD τ) (0 : CellTallies nD τ sig Unit) W) := fun c => by
    unfold St rest
    iintro ⟨Hh, ⟨-, HO⟩, -⟩
    isplitl [Hh] <;> iassumption
  have hweak : ∀ (c : Dev nD) (l : List (Seg (fun q => Cfg.toPCfg (Val := Val) (cfgs q)) (fun q => (cfgs q).toPCfg_adm) pd0 () defs₀ 𝒱₀ L0 lv0)) (T T' T'' : Dev nD → sProp 𝕄),
      (T' c ⊢ T'' c) → Seg.ChainsAt c T l T' → Seg.ChainsAt c T l T'' := fun c l => by
    induction l with
    | nil => exact fun T T' T'' h hc => BI.Entails.trans hc h
    | cons s l ih => exact fun T T' T'' h hc => ⟨hc.1, ih _ _ _ h hc.2⟩
  refine Pipeline.θ_run_regions_kit_dev_sems (fun q => Cfg.toPCfg (Val := Val) (cfgs q)) (fun q => (cfgs q).toPCfg_adm) pd0 () hinj embL defs₀ 𝒱₀ L0 lv0 m g main
    (fun _ => items.map fun H => .host H)
    (fun c Q' => by rw [hmain c, Seg.run_eq_chain, hmap])
    (fun c => by rw [hpipes]; exact List.nodup_nil) (O₀ := 0) (hL := fun _ _ => rfl)
    (G := fun c => bigSep Finset.univ fun p : P => ghost cfgs p c)
    (u₀ := (initOf (cells cfgs hinj) (launchToks cfgs hinj), initOf (cells cfgs hinj) (launchToks cfgs hinj)))
    (hu₀ := fund_ghosts cfgs hinj)
    (T₀ := St (fun c W => W = StableHlo.launchContents m c) fun c => bigSep Finset.univ fun p : P => ghost cfgs p c)
    (Tₙ := heldSome Q) (hch := fun c => hweak c _ _ _ _ (hlast c) (hch c))
    (hinit := by
      refine initEach L0 lv0 fun c => ?_
      rw [show unscopedBufs c (fun b => m ((c.tc : Thread nD τ).loc b)) = StableHlo.held (c.tc : Thread nD τ) (ucRefs τ sig) (StableHlo.launchContents m c)
          from unscopedBufs_held (Ix := Unit) (Name := ℕ) (U := U2 sig nD τ) (Lvl := ℕ) c (StableHlo.launchContents m c)]
      unfold St heldSome rest
      iintro ⟨⟨Hh, -, HO, -, Hp, HG⟩, -⟩
      imodintro
      isplitl [Hh]
      · iexists _
        isplitr
        · ipureintro; rfl
        iexact Hh
      isplitl [Hp HO]
      · isplitl [Hp]; · iexists _; iexact Hp
        iexists _; iexact HO
      iexact HG)
    (QY := fun c s => ∃ W, Q c W ∧ ∀ b ∈ ucRefs τ sig, s.mem (c, b) = W b)
    (hfin := fun c s' => by
      unfold heldSome StableHlo.held
      iintro ⟨⟨%W, %hW, Hh⟩, HSI⟩
      ihave Hr := (pointsTo_read_all (ucRefs τ sig) (fun b => ((c.tc : Thread nD τ).1, b)) W s') $$ [Hh HSI]
      · isplitl [Hh] <;> iassumption
      icases Hr with ⟨%h, HSI⟩
      imodintro
      isplitr
      · ipureintro; exact ⟨W, hW, h⟩
      iexact HSI)
    (hQ := fun s h hz => ⟨h, funext fun g => hz g (.inr (hsem g.2))⟩)

end Launch

end Cert.Rel

end
-- ==== Proof.WindowData.lean ====
/-
  THE PROOF DATA OF A REGION ENTERED AT A VALUATION, and what its body finds in an input window.

  The arrays are the valuation's. An input window's staging buffer holds, at every point, the array's block on the part a transfer moves
  and anything elsewhere (`stageOf`). Nothing is owed and the body's invariant is the class's.
-/
module

public import proofs.«01_k».proof.Proof.RegionRel
public import Idealize.ShloMosaic.Lib.Pipeline.FrameBody

@[expose] public section

noncomputable section

namespace Cert.Rel

open Idealize.ShloMosaic Idealize.ShloMosaic.TcCoe
open Idealize.SL Idealize.SL.RA Idealize.SL.BI Idealize.SL.Sem
open Idealize.ShloMosaic.Rounds Idealize.ShloMosaic.Pipeline

variable {nD : Nat} {τ : Topo} {sig : RefSig} {Val : EltTy → Type} {Λ₀ : Idealize.SL.Sem.Labels}
variable [∀ e, Nonempty (Val e)]

/-- What window `w`'s staging buffer holds after a fetch at point `t`: the block of its array, as the valuation `W` has it, on the part the
    fetch moves, and `d` elsewhere. -/
def stageOf (cfg : Cfg sig Λ₀) (W : Valuation τ sig Val) (w : Fin cfg.W) (t : Fin cfg.N) (d : (cfg.win w).block.Idx → Val (cfg.win w).elt) :
    (cfg.win w).block.Idx → Val (cfg.win w).elt :=
  (cfg.win w).fill (cfg.grid.coords t) d (((cfg.win w).blk t).view.read Val (W (Proc.devRef .tc (arrRef cfg.spec w))))

/-- Something to put where nothing is said. -/
def anyOf (cfg : Cfg sig Λ₀) (w : Fin cfg.W) : (cfg.win w).block.Idx → Val (cfg.win w).elt := fun _ => Classical.arbitrary _

/-- The proof data of a region entered at the valuation `W`. -/
def datOf (cfg : Cfg sig Λ₀) (W : Valuation τ sig Val) (c : Dev nD) : Dat τ Val Unit ℕ (U2 sig nD τ) ℕ cfg c where
  A w := W (Proc.devRef .tc (arrRef cfg.spec w))
  after w t := stageOf cfg W w t (anyOf cfg w)
  Φ _ := ΦA cfg.spec c
  q _ := fullShare
  owed _ := 0

variable (cfg : Cfg sig Λ₀) (W : Valuation τ sig Val)

/-- Cut to the part a transfer moves, a fetched buffer is the array's block. -/
theorem cut_stageOf (w : Fin cfg.W) (t : Fin cfg.N) (d : (cfg.win w).block.Idx → Val (cfg.win w).elt) :
    (cfg.win w).cut (cfg.grid.coords t) (stageOf cfg W w t d) = ((cfg.win w).blk t).view.read Val (W (Proc.devRef .tc (arrRef cfg.spec w))) :=
  (cfg.win w).cut_fill _ _ _

/-- An input window never idle holds its block wherever the body is handed it, fetched there or not. -/
theorem before_datOf (c : Dev nD) (w : Fin cfg.W) (hw : (cfg.win w).isOut = false) (hlive : ∀ i, cfg.idle w i = false)
    (hclip : ∀ t t' : Fin cfg.N, (cfg.win w).index t = (cfg.win w).index t' →
      (cfg.win w).clip (cfg.grid.coords t) = (cfg.win w).clip (cfg.grid.coords t'))
    (t : Fin cfg.N) (d : (cfg.win w).block.Idx → Val (cfg.win w).elt) : (datOf cfg W c).before w t d = stageOf cfg W w t d :=
  (datOf cfg W c).before_in_eq_fetched w hw hlive hclip (fun t => cut_stageOf cfg W w t _) t d

/-- As `before_datOf`, of a window fetched at the point. -/
theorem before_datOf_fetch (c : Dev nD) (w : Fin cfg.W) (t : Fin cfg.N) (hf : (cfg.win w).fetch t = true)
    (d : (cfg.win w).block.Idx → Val (cfg.win w).elt) : (datOf cfg W c).before w t d = stageOf cfg W w t d :=
  (datOf cfg W c).before_fetched w t hf d

/-- The fetched buffer of an uncut window is the block alone. -/
theorem stageOf_uncut (w : Fin cfg.W) (t : Fin cfg.N) (h : ∀ a, (cfg.win w).clip (cfg.grid.coords t) a = none)
    (d d' : (cfg.win w).block.Idx → Val (cfg.win w).elt) : stageOf cfg W w t d = stageOf cfg W w t d' :=
  (datOf (nD := 1) cfg W 0).fetched_of_clip_none w t h d d'

/-- Filled again from itself, a fetched buffer is a fetched buffer. -/
theorem fill_cut_stageOf (w : Fin cfg.W) (t : Fin cfg.N) (d d' : (cfg.win w).block.Idx → Val (cfg.win w).elt) :
    (cfg.win w).fill (cfg.grid.coords t) d ((cfg.win w).cut (cfg.grid.coords t) (stageOf cfg W w t d')) = stageOf cfg W w t d := by
  rw [cut_stageOf]; rfl

end Cert.Rel

end
-- ==== Proof.Region0.lean ====
/-
  THE FIRST REGION'S BODY: what one run leaves in the two result windows, as functions of what the input windows hold.
-/
module

public import proofs.«01_k».proof.Proof.WindowData
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.KernelIdeal.Own

open Cert.KernelIdeal Cert.KernelIdeal.Gen Cert.Rel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf arrRef)

variable {F : FTy → Type} [FloatOps F]

local notation "𝕄" => MT nD τ sig Unit (Elt F) ℕ (U2 sig nD τ) ℕ

/-- The gate's block from the input blocks: the copy probability of every row. -/
def out10 (x0 x1 : Vec F S128x512 .f32) (x2 : Vec F S128x400 .f32) (x3 : Vec F S400x512 .f32) (x6 x7 x8 : Vec F S1x512 .f32) (x9 : Vec F S1x1 .f32) :
    Vec F S128x1 .f32 :=
  k0_pay1 (k0_pay2 x0) (k0_pay4 x2 x3) x6 x7 x1 x8 x9

set_option maxHeartbeats 2000000 in
/-- The body on whole staging memrefs: the inputs are left as found, the results hold the gate's block and the normalised rows. -/
theorem sound_kernel0 (c : Dev nD) (i : grid0.Coords)
    (arg1 : Memref sig .tc .vmem S128x512 .f32) (harg1 : arg1.IsWhole) (arg2 : Memref sig .tc .vmem S128x512 .f32) (harg2 : arg2.IsWhole) (arg3 : Memref sig .tc .vmem S128x400 .f32) (harg3 : arg3.IsWhole)
    (arg4 : Memref sig .tc .vmem S400x512 .f32) (harg4 : arg4.IsWhole) (arg5 : Memref sig .tc .vmem S1x512 .f32) (harg5 : arg5.IsWhole) (arg6 : Memref sig .tc .vmem S1x512 .f32) (harg6 : arg6.IsWhole)
    (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (arg10 : Memref sig .tc .vmem S1x1 .f32) (harg10 : arg10.IsWhole) (arg11 : Memref sig .tc .vmem S128x1 .f32) (harg11 : arg11.IsWhole) (arg12 : Memref sig .tc .vmem S128x512 .bf16) (harg12 : arg12.IsWhole)

    (x0 : Vec F S128x512 .f32) (x1 : Vec F S128x512 .f32) (x2 : Vec F S128x400 .f32) (x3 : Vec F S400x512 .f32) (x4 : Vec F S1x512 .f32) (x5 : Vec F S1x512 .f32) (x6 : Vec F S1x512 .f32) (x7 : Vec F S1x512 .f32) (x8 : Vec F S1x512 .f32) (x9 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out10 x0 x1 x2 x3 x6 x7 x8 x9)
            ∗ owns (c : Thread nD τ) arg12 fullShare (k0_pay3 x0 x4 x5)) -∗ K ⟨⟩))
      ⊢ wp frame (wpE (defs₀ (F := F)) Variants.none c none) Set.univ (cc0__gate_kernel i arg1 harg1 arg2 harg2 arg3 harg3 arg4 harg4 arg5 harg5 arg6 harg6 arg7 harg7 arg8 harg8 arg9 harg9 arg10 harg10 arg11 harg11 arg12 harg12) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_full _ _ _ _ _).trans ?_
    exact congr (congr (congr (congr (congr (congr (congrArg k0_pay1 (congrArg k0_pay2 (View.ld_unit_lit _ _ (by decide)))) (congr (congrArg k0_pay4 (View.ld_unit_lit _ _ (by decide)))
      (View.ld_unit_lit _ _ (by decide)))) (View.ld_unit_lit _ _ (by decide)))
      (View.ld_unit_lit _ _ (by decide)))
      (View.ld_unit_lit _ _ (by decide)))
      (View.ld_unit_lit _ _ (by decide)))
      (View.ld_unit_lit _ _ (by decide))
  iexists _; isplitr
  swap; · iexact H11
  ipureintro
  refine (View.read_writes_full _ _ _ _ _).trans ?_
  exact congr (congr (congrArg k0_pay3 (View.ld_unit_lit _ _ (by decide))) (View.ld_unit_lit _ _ (by decide))) (View.ld_unit_lit _ _ (by decide))

/-- The body as the pipeline calls it at point `t`. -/
theorem row0 (t : Fin cfg0.N) : defs₀ (F := F) .tc cfg0.body (cfg0.bodyArgs t (cfg0.slots t)) = bodyAt0 t := by
  unfold defs₀; rw [Defs.onTc_tc]

variable (W : Valuation τ sig (Elt F)) (c : Dev nD)
  (Rl : (w : Fin cfg0.W) → Fin cfg0.N → ((cfg0.win w).block.Idx → Elt F (cfg0.win w).elt) → Prop)

/-- What input window `w`'s buffer holds at point `t`: its block. -/
abbrev in0 (w : Fin cfg0.W) (t : Fin cfg0.N) : (cfg0.win w).block.Idx → Elt F (cfg0.win w).elt := stageOf cfg0 W w t (anyOf cfg0 w)

/-- What the first region's results may hold after point `t`: the assumptions under which the body meets its obligation. -/
structure Rel0 : Prop where
  /-- The first result is the gate's block. -/
  w10 : ∀ t : Fin cfg0.N, Rl 10 t (out10 (in0 W 0 t) (in0 W 1 t) (in0 W 2 t) (in0 W 3 t) (in0 W 6 t) (in0 W 7 t) (in0 W 8 t) (in0 W 9 t))
  /-- The second is the block of normalised rows. -/
  w11 : ∀ t : Fin cfg0.N, Rl 11 t (k0_pay3 (in0 W 0 t) (in0 W 4 t) (in0 W 5 t))

/-- What the body is called with at point `t`, the windows one by one. -/
def bodyPre0 (t : Fin cfg0.N) : sProp 𝕄 :=
  iprop((datOf cfg0 W c).Φ t.castSucc ∗ (datOf cfg0 W c).owesAt () t.castSucc
    ∗ (∃ d, owns (c : Thread nD τ) (st0_0 t) fullShare ((datOf cfg0 W c).before 0 t d))
    ∗ (∃ d, owns (c : Thread nD τ) (st0_1 t) fullShare ((datOf cfg0 W c).before 1 t d))
    ∗ (∃ d, owns (c : Thread nD τ) (st0_2 t) fullShare ((datOf cfg0 W c).before 2 t d))
    ∗ (∃ d, owns (c : Thread nD τ) (st0_3 t) fullShare ((datOf cfg0 W c).before 3 t d))
    ∗ (∃ d, owns (c : Thread nD τ) (st0_4 t) fullShare ((datOf cfg0 W c).before 4 t d))
    ∗ (∃ d, owns (c : Thread nD τ) (st0_5 t) fullShare ((datOf cfg0 W c).before 5 t d))
    ∗ (∃ d, owns (c : Thread nD τ) (st0_6 t) fullShare ((datOf cfg0 W c).before 6 t d))
    ∗ (∃ d, owns (c : Thread nD τ) (st0_7 t) fullShare ((datOf cfg0 W c).before 7 t d))
    ∗ (∃ d, owns (c : Thread nD τ) (st0_8 t) fullShare ((datOf cfg0 W c).before 8 t d))
    ∗ (∃ d, owns (c : Thread nD τ) (st0_9 t) fullShare ((datOf cfg0 W c).before 9 t d))
    ∗ (∃ Y, ⌜((datOf cfg0 W c).toRRel (fun w => (cfg0.win w).isOut) Rl).Finds 10 t Y⌝ ∗ owns (c : Thread nD τ) (st0_10 t) fullShare Y)
    ∗ (∃ Y, ⌜((datOf cfg0 W c).toRRel (fun w => (cfg0.win w).isOut) Rl).Finds 11 t Y⌝ ∗ owns (c : Thread nD τ) (st0_11 t) fullShare Y))

/-- What it returns with. -/
def bodyPost0 (t : Fin cfg0.N) : sProp 𝕄 :=
  iprop((datOf cfg0 W c).Φ t.succ ∗ (datOf cfg0 W c).owesAt () t.succ
    ∗ owns (c : Thread nD τ) (st0_0 t) fullShare ((datOf cfg0 W c).after 0 t)
    ∗ owns (c : Thread nD τ) (st0_1 t) fullShare ((datOf cfg0 W c).after 1 t)
    ∗ owns (c : Thread nD τ) (st0_2 t) fullShare ((datOf cfg0 W c).after 2 t)
    ∗ owns (c : Thread nD τ) (st0_3 t) fullShare ((datOf cfg0 W c).after 3 t)
    ∗ owns (c : Thread nD τ) (st0_4 t) fullShare ((datOf cfg0 W c).after 4 t)
    ∗ owns (c : Thread nD τ) (st0_5 t) fullShare ((datOf cfg0 W c).after 5 t)
    ∗ owns (c : Thread nD τ) (st0_6 t) fullShare ((datOf cfg0 W c).after 6 t)
    ∗ owns (c : Thread nD τ) (st0_7 t) fullShare ((datOf cfg0 W c).after 7 t)
    ∗ owns (c : Thread nD τ) (st0_8 t) fullShare ((datOf cfg0 W c).after 8 t)
    ∗ owns (c : Thread nD τ) (st0_9 t) fullShare ((datOf cfg0 W c).after 9 t)
    ∗ (∃ X, ⌜Rl 10 t X⌝ ∗ owns (c : Thread nD τ) (st0_10 t) fullShare X)
    ∗ (∃ X, ⌜Rl 11 t X⌝ ∗ owns (c : Thread nD τ) (st0_11 t) fullShare X))

/-- The body meets its obligation for every relation that its results meet. -/
theorem sound_body0 (h : Rel0 W Rl) (t : Fin cfg0.N) :
    bodyPre0 W c Rl t ⊢ wp frame (wpE (defs₀ (F := F)) Variants.none c none) Set.univ (bodyAt0 t) fun _ => bodyPost0 W c Rl t := by
  unfold bodyPre0 bodyPost0
  rw [show (datOf cfg0 W c).Φ t.succ = (datOf cfg0 W c).Φ t.castSucc from rfl,
    show (datOf cfg0 W c).owesAt () t.succ = (datOf cfg0 W c).owesAt () t.castSucc from rfl]
  simp only [before_datOf cfg0 W c 0 rfl (fun _ => rfl) (fun _ _ _ => rfl),
    before_datOf cfg0 W c 1 rfl (fun _ => rfl) (fun _ _ _ => rfl),
    before_datOf cfg0 W c 2 rfl (fun _ => rfl) (fun _ _ _ => rfl),
    before_datOf cfg0 W c 3 rfl (fun _ => rfl) (fun _ _ _ => rfl),
    before_datOf cfg0 W c 4 rfl (fun _ => rfl) (fun _ _ _ => rfl),
    before_datOf cfg0 W c 5 rfl (fun _ => rfl) (fun _ _ _ => rfl),
    before_datOf cfg0 W c 6 rfl (fun _ => rfl) (fun _ _ _ => rfl),
    before_datOf cfg0 W c 7 rfl (fun _ => rfl) (fun _ _ _ => rfl),
    before_datOf cfg0 W c 8 rfl (fun _ => rfl) (fun _ _ _ => rfl),
    before_datOf cfg0 W c 9 rfl (fun _ => rfl) (fun _ _ _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, -, H10⟩, ⟨%Y11, -, H11⟩⟩
  iapply (sound_kernel0 c (grid0.coords t) _ _ _ _ _ _ _ _ _ _ _ _ _ _ _ _ _ _ _ _ _ _ _ _ (in0 W 0 t) (in0 W 1 t) (in0 W 2 t) (in0 W 3 t) (in0 W 4 t) (in0 W 5 t) (in0 W 6 t) (in0 W 7 t) (in0 W 8 t) (in0 W 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists Y10; iexact H10
  isplitl [H11]; · iexists Y11; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr
    swap; · iexact H10
    ipureintro; exact h.w10 t
  iexists _; isplitr
  swap; · iexact H11
  ipureintro; exact h.w11 t

/-- The first region's body obligation. -/
theorem body_obligation0 (h : Rel0 W Rl) :
    Pipeline.BodyObligationRel (datOf cfg0 W c) (defs₀ (F := F)) Variants.none () Set.univ (fun w => (cfg0.win w).isOut) Rl := fun t => by
  rw [bigSep_W0, bigSep_W0, row0]
  exact triple_restated (sound_body0 W c Rl h t) rfl .rfl fun _ => .rfl

end Cert.KernelIdeal.Own

end
-- ==== Proof.Region1.lean ====
/-
  THE SECOND REGION'S BODY: what one run leaves in the two result windows, as functions of what the input windows hold.
-/
module

public import proofs.«01_k».proof.Proof.WindowData
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.KernelIdeal.Own

open Cert.KernelIdeal Cert.KernelIdeal.Gen Cert.Rel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf arrRef)

variable {F : FTy → Type} [FloatOps F]

local notation "𝕄" => MT nD τ sig Unit (Elt F) ℕ (U2 sig nD τ) ℕ

/-- The condition under which the accumulator is cleared: the printed comparison of the grid coordinate with zero. -/
def first1 (i : grid1.Coords) : Prop :=
  Scalar.cmpi .ne (Scalar.extui (Scalar.cmpi .eq (BitVec.ofNat 32 (i 0).val) 0#32) : BitVec 32) 0#32 = 1#1

instance (i : grid1.Coords) : Decidable (first1 i) := by unfold first1; infer_instance

/-- The accumulator after one run of the body, from what it held. -/
def acc1 (i : grid1.Coords) (v0 : Vec F S4096x512 .f32) (v3 : Vec F S1024x512 .bf16) (v6 : Vec F S4096x1 .f32) (y : Vec F S1x1024 .f32) :
    Vec F S1x1024 .f32 :=
  k1_pay3 i v0 v3 v6 (if first1 i then k1_pay2 else y)

set_option maxHeartbeats 2000000 in
/-- The body on whole staging memrefs: the inputs are left as found, the first result holds the weights rounded, the accumulator its
    step. -/
theorem sound_kernel1 (c : Dev nD) (i : grid1.Coords)
    (arg1 : Memref sig .tc .vmem S1024x512 .bf16) (harg1 : arg1.IsWhole) (arg2 : Memref sig .tc .vmem S4096x512 .f32) (harg2 : arg2.IsWhole)
    (arg3 : Memref sig .tc .vmem S4096x1 .f32) (harg3 : arg3.IsWhole) (arg4 : Memref sig .tc .vmem S4096x512 .bf16) (harg4 : arg4.IsWhole)
    (arg5 : Memref sig .tc .vmem S1x1024 .f32) (harg5 : arg5.IsWhole)
    (x0 : Vec F S1024x512 .bf16) (x1 : Vec F S4096x512 .f32) (x2 : Vec F S4096x1 .f32) (y : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare y
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x1) ∗ owns (c : Thread nD τ) arg5 fullShare (acc1 i x1 x0 x2 y)) -∗ K ⟨⟩))
      ⊢ wp frame (wpE (defs₀ (F := F)) Variants.none c none) Set.univ (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  unfold acc1
  by_cases hc : first1 i
  · rw [if_pos hc]
    unfold first1 at hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      refine (View.read_writes_full _ _ _ _ _).trans ?_
      exact congrArg k1_pay1 (View.ld_unit_lit _ _ (by decide))
    iexists _; isplitr
    swap; · iexact H4
    ipureintro
    refine (View.read_writes_full _ _ _ _ _).trans ?_
    unfold sound_kernel1.sl.v23 sound_kernel1.sl.H4_1
    exact congr (congr (congr (congrArg (k1_pay3 i) (View.ld_unit_lit _ _ (by decide))) (View.ld_unit_lit _ _ (by decide)))
      (View.ld_unit_lit _ _ (by decide))) (View.readCov_unit_lit _ _ _ (by decide))
  · rw [if_neg hc]
    unfold first1 at hc
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      refine (View.read_writes_full _ _ _ _ _).trans ?_
      exact congrArg k1_pay1 (View.ld_unit_lit _ _ (by decide))
    iexists _; isplitr
    swap; · iexact H4
    ipureintro
    refine (View.read_writes_full _ _ _ _ _).trans ?_
    exact congr (congr (congr (congrArg (k1_pay3 i) (View.ld_unit_lit _ _ (by decide))) (View.ld_unit_lit _ _ (by decide)))
      (View.ld_unit_lit _ _ (by decide))) (View.ld_unit_lit _ _ (by decide))

/-- What the second region's results may hold after point `t`: the assumptions under which the body meets its obligation. -/
structure Rel1 (W : Valuation τ sig (Elt F)) (Rl : (w : Fin cfg1.W) → Fin cfg1.N → ((cfg1.win w).block.Idx → Elt F (cfg1.win w).elt) → Prop) : Prop where
  /-- The first result is the rounded weights. -/
  w3 : ∀ (t : Fin cfg1.N) d, Rl 3 t (k1_pay1 (stageOf cfg1 W 1 t d))
  /-- The accumulator begins with a cleared step. -/
  first : ∀ (t : Fin cfg1.N) d d' y, first1 (grid1.coords t) → Rl 4 t (acc1 (grid1.coords t) (stageOf cfg1 W 1 t d) (stageOf cfg1 W 0 t (anyOf cfg1 0)) (stageOf cfg1 W 2 t d') y)
  /-- It steps from one point to the next. -/
  step : ∀ (t : Fin cfg1.N) d d' y (ht : t.val ≠ 0), Rl 4 ⟨t.val - 1, by omega⟩ y →
    Rl 4 t (acc1 (grid1.coords t) (stageOf cfg1 W 1 t d) (stageOf cfg1 W 0 t (anyOf cfg1 0)) (stageOf cfg1 W 2 t d') y)

/-- The first point is the one that clears. -/
theorem first1_iff : ∀ t : Fin cfg1.N, first1 (grid1.coords t) ↔ t.val = 0 := by decide

/-- The body as the pipeline calls it at point `t`. -/
theorem row1 (t : Fin cfg1.N) : defs₀ (F := F) .tc cfg1.body (cfg1.bodyArgs t (cfg1.slots t)) = bodyAt1 t := by
  unfold defs₀; rw [Defs.onTc_tc]

variable (W : Valuation τ sig (Elt F)) (c : Dev nD)
  (Rl : (w : Fin cfg1.W) → Fin cfg1.N → ((cfg1.win w).block.Idx → Elt F (cfg1.win w).elt) → Prop)

/-- What the body is called with at point `t`, the windows one by one. -/
def bodyPre1 (t : Fin cfg1.N) : sProp 𝕄 :=
  iprop((datOf cfg1 W c).Φ t.castSucc ∗ (datOf cfg1 W c).owesAt () t.castSucc
    ∗ (∃ d, owns (c : Thread nD τ) (st1_0 t) fullShare ((datOf cfg1 W c).before 0 t d))
    ∗ (∃ d, owns (c : Thread nD τ) (st1_1 t) fullShare ((datOf cfg1 W c).before 1 t d))
    ∗ (∃ d, owns (c : Thread nD τ) (st1_2 t) fullShare ((datOf cfg1 W c).before 2 t d))
    ∗ (∃ Y, ⌜((datOf cfg1 W c).toRRel (fun w => (cfg1.win w).isOut) Rl).Finds 3 t Y⌝ ∗ owns (c : Thread nD τ) (st1_3 t) fullShare Y)
    ∗ (∃ Y, ⌜((datOf cfg1 W c).toRRel (fun w => (cfg1.win w).isOut) Rl).Finds 4 t Y⌝ ∗ owns (c : Thread nD τ) (st1_4 t) fullShare Y))

/-- What it returns with. -/
def bodyPost1 (t : Fin cfg1.N) : sProp 𝕄 :=
  iprop((datOf cfg1 W c).Φ t.succ ∗ (datOf cfg1 W c).owesAt () t.succ
    ∗ owns (c : Thread nD τ) (st1_0 t) fullShare ((datOf cfg1 W c).after 0 t)
    ∗ (∃ d, owns (c : Thread nD τ) (st1_1 t) fullShare ((cfg1.win 1).fill (cfg1.grid.coords t) d ((cfg1.win 1).cut (cfg1.grid.coords t) ((datOf cfg1 W c).after 1 t))))
    ∗ (∃ d, owns (c : Thread nD τ) (st1_2 t) fullShare ((cfg1.win 2).fill (cfg1.grid.coords t) d ((cfg1.win 2).cut (cfg1.grid.coords t) ((datOf cfg1 W c).after 2 t))))
    ∗ (∃ X, ⌜Rl 3 t X⌝ ∗ owns (c : Thread nD τ) (st1_3 t) fullShare X)
    ∗ (∃ X, ⌜Rl 4 t X⌝ ∗ owns (c : Thread nD τ) (st1_4 t) fullShare X))

/-- At a later point the accumulator is what the point before left. -/
theorem finds1_4 (t : Fin cfg1.N) (Y) (h : ((datOf cfg1 W c).toRRel (fun w => (cfg1.win w).isOut) Rl).Finds 4 t Y) (ht : t.val ≠ 0) :
    Rl 4 ⟨t.val - 1, by omega⟩ Y := by
  rcases (((datOf cfg1 W c).toRRel (fun w => (cfg1.win w).isOut) Rl).finds_of_pos ((cfg1.win 4).fetch_out rfl t) ht Y).mp h with hfl | hL
  · have h12 := (flush1_4 _).mp hfl
    have hlt : t.val < 13 := t.isLt
    simp only at h12
    omega
  · exact Dat.toRRel_leaves (datOf cfg1 W c) rfl hL

/-- The body meets its obligation for every relation that its step keeps. -/
theorem sound_body1 (h : Rel1 W Rl) (t : Fin cfg1.N) :
    bodyPre1 W c Rl t ⊢ wp frame (wpE (defs₀ (F := F)) Variants.none c none) Set.univ (bodyAt1 t) fun _ => bodyPost1 W c Rl t := by
  unfold bodyPre1 bodyPost1
  have e1 : ∀ d, (cfg1.win 1).fill (cfg1.grid.coords t) d ((cfg1.win 1).cut (cfg1.grid.coords t) ((datOf cfg1 W c).after 1 t)) = stageOf cfg1 W 1 t d :=
    fun d => fill_cut_stageOf cfg1 W 1 t d _
  have e2 : ∀ d, (cfg1.win 2).fill (cfg1.grid.coords t) d ((cfg1.win 2).cut (cfg1.grid.coords t) ((datOf cfg1 W c).after 2 t)) = stageOf cfg1 W 2 t d :=
    fun d => fill_cut_stageOf cfg1 W 2 t d _
  rw [show (datOf cfg1 W c).Φ t.succ = (datOf cfg1 W c).Φ t.castSucc from rfl,
    show (datOf cfg1 W c).owesAt () t.succ = (datOf cfg1 W c).owesAt () t.castSucc from rfl]
  simp only [e1, e2, before_datOf cfg1 W c 0 rfl (fun _ => rfl) (fun _ _ _ => rfl), before_datOf_fetch cfg1 W c 1 t (fetch1_1 t), before_datOf_fetch cfg1 W c 2 t (fetch1_2 t)]
  iintro ⟨HΦ, Ho, ⟨%d0, H0⟩, ⟨%d1, H1⟩, ⟨%d2, H2⟩, ⟨%Y3, -, H3⟩, ⟨%Y4, %hY4, H4⟩⟩
  iapply (sound_kernel1 c (grid1.coords t) _ _ _ _ _ _ _ _ _ _ (stageOf cfg1 W 0 t d0) (stageOf cfg1 W 1 t d1) (stageOf cfg1 W 2 t d2) Y4 _)
  isplitl [H0]; · iexact H0
  isplitl [H1]; · iexact H1
  isplitl [H2]; · iexact H2
  isplitl [H3]; · iexists Y3; iexact H3
  isplitl [H4]; · iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]
  · iexists _; isplitr
    swap; · iexact H3
    ipureintro; exact h.w3 t d1
  iexists _; isplitr
  swap; · iexact H4
  ipureintro
  by_cases ht : t.val = 0
  · exact h.first t d1 d2 Y4 ((first1_iff t).mpr ht)
  · exact h.step t d1 d2 Y4 ht (finds1_4 W c Rl t Y4 hY4 ht)

/-- The second region's body obligation. -/
theorem body_obligation1 (h : Rel1 W Rl) :
    Pipeline.BodyObligationRel (datOf cfg1 W c) (defs₀ (F := F)) Variants.none () Set.univ (fun w => (cfg1.win w).isOut) Rl := fun t => by
  rw [bigSep_W1, bigSep_W1, row1]
  exact triple_restated (sound_body1 W c Rl h t) rfl .rfl fun _ => .rfl

end Cert.KernelIdeal.Own

end
-- ==== Proof.Region2.lean ====
/-
  THE THIRD REGION'S BODY: what one run leaves in the result window, as a function of what the input windows hold.
-/
module

public import proofs.«01_k».proof.Proof.WindowData
public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

@[expose] public section

set_option maxRecDepth 16384

noncomputable section

namespace Cert.KernelIdeal.Own

open Cert.KernelIdeal Cert.KernelIdeal.Gen Cert.Rel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf arrRef)

variable {F : FTy → Type} [FloatOps F]

local notation "𝕄" => MT nD τ sig Unit (Elt F) ℕ (U2 sig nD τ) ℕ

/-- Row `b` of the indices lies in the array. -/
theorem inbSrc (b : Fin 8) : ∀ a, (![b.val, 0] : Fin 2 → ℕ) a + S1x400.size a ≤ S8x400.size a :=
  Fin.forall_fin_two.mpr ⟨by show b.val + 1 ≤ 8; omega, le_refl _⟩

/-- The 400 attention rows of batch `b` lie in the array. -/
theorem inbAttn (b : Fin 8) : ∀ a, (![400 * b.val, 0] : Fin 2 → ℕ) a + S400x128.size a ≤ S3200x128.size a :=
  Fin.forall_fin_two.mpr ⟨by show 400 * b.val + 400 ≤ 3200; omega, le_refl _⟩

/-- Slice `b` of the result lies in the result. -/
theorem inbOut (b : Fin 8) : ∀ a, (![b.val, 0, 0] : Fin 3 → ℕ) a + S1x2048x128.size a ≤ S8x2048x128.size a := by
  intro a; fin_cases a
  · show b.val + 1 ≤ 8; omega
  · exact le_refl _
  · exact le_refl _

/-- The 128 columns of batch `b` are a slice of a row. -/
theorem slicesRow : ∀ b : Fin 8, S1x1024.Slices ![0, 128 * b.val] S1x128 := by decide

/-- The 128 columns of batch `b` are a slice of the logits. -/
theorem slicesLogit : ∀ b : Fin 8, S2048x1024.Slices ![0, 128 * b.val] S2048x128 := by decide

/-- The mass copied to each row of the block: the one-hot matrix of the source indices times the attention. -/
def copied2 (i : grid2.Coords) (src : Vec F S1x400 .i32) (attn : Vec F S400x128 .bf16) : FVec F S2048x128 .f32 := k2_pay6 i src attn

/-- Slice `b` of the result: the logarithm of the mixture of the softmax and the copied mass. -/
def slice2 (i : grid2.Coords) (lg : FVec F S2048x1024 .f32) (pz rest : FVec F S1x1024 .f32) (x5 : Vec F S3200x128 .bf16) (x6 : Vec F S8x400 .i32)
    (b : Fin 8) : FVec F S1x2048x128 .f32 :=
  k2_pay16 (copied2 i (View.ld x6 (Rect.unit (s := S8x400) ![b.val, 0] S1x400.size (inbSrc b)))
      (View.ld x5 (Rect.unit (s := S3200x128) ![400 * b.val, 0] S400x128.size (inbAttn b))))
    (extractStridedSlice S1x128 ![0, 128 * b.val] rest (slicesRow b))
    (exp (extractStridedSlice S2048x128 ![0, 128 * b.val] lg (slicesLogit b)))
    (broadcastTo S2048x128 (extractStridedSlice S1x128 ![0, 128 * b.val] pz (slicesRow b)) broadcasts_S1x128_S2048x128)

/-- The piece that slice `b` is stored through. -/
abbrev piece2 (p : Fin 8 → FVec F S1x2048x128 .f32) (b : Fin 8) : View.Piece (Elt F) S8x2048x128 .f32 :=
  ⟨Rect.unit (s := S8x2048x128) ![b.val, 0, 0] S1x2048x128.size (inbOut b), p b⟩

/-- A buffer whose eight slices were stored reads, in each slice, what was stored there. -/
theorem read_slices {κ : Kind} {sp : Space} (v : View sig κ sp S8x2048x128 .f32) (f : v.ty.Contents (Elt F)) (p : Fin 8 → FVec F S1x2048x128 .f32)
    (y : S8x2048x128.Idx) : ∀ L : List (Fin 8), (show Fin 8 from y 0) ∈ L →
      v.read (Elt F) (v.writes (Elt F) f (L.map (piece2 p))) y = p (y 0) (ix3 (0 : Fin 1) (y 1) (y 2)) := by
  intro L hL
  induction L with
  | nil => exact absurd hL List.not_mem_nil
  | cons b L ih =>
    by_cases hb : y 0 = b
    · subst hb
      exact View.read_writes_cons_unit_of_mem v f _ _ _ y _ rfl (fun a => by fin_cases a <;> simp [ix3])
    · refine (View.read_writes_cons_unit_of_not_mem v f _ _ _ y rfl 0 ?_).trans (ih ?_)
      · have : (y 0).val ≠ b.val := fun h => hb (Fin.ext h)
        show (y 0).val < b.val ∨ b.val + 1 ≤ (y 0).val
        omega
      · exact (List.mem_cons.mp hL).resolve_left hb

/-- The result's block from the input blocks, slice by slice. -/
def out27 (i : grid2.Coords) (x0 : Vec F S2048x512 .bf16) (x1 : Vec F S1024x512 .bf16) (x2 : Vec F S2048x1 .f32) (x3 x4 : Vec F S1x1024 .f32)
    (x5 : Vec F S3200x128 .bf16) (x6 : Vec F S8x400 .i32) : Vec F S8x2048x128 .f32 :=
  fun y => slice2 i (k2_pay3 x0 x1 x2) (k2_pay4 x4 x3) (k2_pay5 x4) x5 x6 (y 0) (ix3 (0 : Fin 1) (y 1) (y 2))

set_option maxHeartbeats 1000000 in
/-- The body on whole staging memrefs: the inputs are left as found, the result holds its eight slices. -/
theorem sound_kernel2 (c : Dev nD) (i : grid2.Coords)
    (arg1 : Memref sig .tc .vmem S2048x512 .bf16) (harg1 : arg1.IsWhole) (arg2 : Memref sig .tc .vmem S1024x512 .bf16) (harg2 : arg2.IsWhole) (arg3 : Memref sig .tc .vmem S2048x1 .f32) (harg3 : arg3.IsWhole)
    (arg4 : Memref sig .tc .vmem S1x1024 .f32) (harg4 : arg4.IsWhole) (arg5 : Memref sig .tc .vmem S1x1024 .f32) (harg5 : arg5.IsWhole) (arg6 : Memref sig .tc .vmem S3200x128 .bf16) (harg6 : arg6.IsWhole)
    (arg7 : Memref sig .tc .vmem S8x400 .i32) (harg7 : arg7.IsWhole) (arg8 : Memref sig .tc .vmem S8x2048x128 .f32) (harg8 : arg8.IsWhole)
    (x0 : Vec F S2048x512 .bf16) (x1 : Vec F S1024x512 .bf16) (x2 : Vec F S2048x1 .f32) (x3 : Vec F S1x1024 .f32) (x4 : Vec F S1x1024 .f32) (x5 : Vec F S3200x128 .bf16) (x6 : Vec F S8x400 .i32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (out27 i x0 x1 x2 x3 x4 x5 x6)) -∗ K ⟨⟩))
      ⊢ wp frame (wpE (defs₀ (F := F)) Variants.none c none) Set.univ (cc2__out_kernel i arg1 harg1 arg2 harg2 arg3 harg3 arg4 harg4 arg5 harg5 arg6 harg6 arg7 harg7 arg8 harg8) K := by
  simp only [cc2__out_kernel_eq_skeleton]; unfold cc2__out_kernel_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  have e0 := View.ld_unit_lit inb_S2048x512_S2048x512_0_0 (View.read (Elt F) arg1.view f0) (by decide)
  have e1 := View.ld_unit_lit inb_S1024x512_S1024x512_0_0 (View.read (Elt F) arg2.view f1) (by decide)
  have e2 := View.ld_unit_lit inb_S2048x1_S2048x1_0_0 (View.read (Elt F) arg3.view f2) (by decide)
  have e3 := View.ld_unit_lit inb_S1x1024_S1x1024_0_0 (View.read (Elt F) arg4.view f3) (by decide)
  have e4 := View.ld_unit_lit inb_S1x1024_S1x1024_0_0 (View.read (Elt F) arg5.view f4) (by decide)
  funext y
  refine Eq.trans (congrFun (congrArg (fun L => View.read (Elt F) arg8.view (arg8.view.writes (Elt F) f7 L)) ?_) y)
    (read_slices arg8.view f7 (slice2 i (k2_pay3 (View.read (Elt F) arg1.view f0) (View.read (Elt F) arg2.view f1) (View.read (Elt F) arg3.view f2))
      (k2_pay4 (View.read (Elt F) arg5.view f4) (View.read (Elt F) arg4.view f3)) (k2_pay5 (View.read (Elt F) arg5.view f4))
      (View.read (Elt F) arg6.view f5) (View.read (Elt F) arg7.view f6)) y [7, 6, 5, 4, 3, 2, 1, 0]
      (by have := (y 0).isLt; revert this; generalize y 0 = z; revert z; decide))
  rw [← e0, ← e1, ← e2, ← e3, ← e4]
  refine congr (congrArg List.cons ?_) (congr (congrArg List.cons ?_) (congr (congrArg List.cons ?_) (congr (congrArg List.cons ?_)
    (congr (congrArg List.cons ?_) (congr (congrArg List.cons ?_) (congr (congrArg List.cons ?_) (congr (congrArg List.cons ?_) rfl)))))))
  all_goals rfl

/-- The body as the pipeline calls it at point `t`. -/
theorem row2 (t : Fin cfg2.N) : defs₀ (F := F) .tc cfg2.body (cfg2.bodyArgs t (cfg2.slots t)) = bodyAt2 t := by
  unfold defs₀; rw [Defs.onTc_tc]

variable (W : Valuation τ sig (Elt F)) (c : Dev nD)
  (Rl : (w : Fin cfg2.W) → Fin cfg2.N → ((cfg2.win w).block.Idx → Elt F (cfg2.win w).elt) → Prop)

/-- What uncut input window `w`'s buffer holds at point `t`: its block. -/
abbrev in2 (w : Fin cfg2.W) (t : Fin cfg2.N) : (cfg2.win w).block.Idx → Elt F (cfg2.win w).elt := stageOf cfg2 W w t (anyOf cfg2 w)

/-- What the third region's result may hold after point `t`: the assumption under which the body meets its obligation. -/
structure Rel2 : Prop where
  /-- The result is the eight slices of the inputs' blocks, the biases' block filled up with anything. -/
  w7 : ∀ (t : Fin cfg2.N) d, Rl 7 t (out27 (grid2.coords t) (in2 W 0 t) (in2 W 1 t) (stageOf cfg2 W 2 t d) (in2 W 3 t) (in2 W 4 t) (in2 W 5 t) (in2 W 6 t))

/-- What the body is called with at point `t`, the windows one by one. -/
def bodyPre2 (t : Fin cfg2.N) : sProp 𝕄 :=
  iprop((datOf cfg2 W c).Φ t.castSucc ∗ (datOf cfg2 W c).owesAt () t.castSucc
    ∗ (∃ d, owns (c : Thread nD τ) (st2_0 t) fullShare ((datOf cfg2 W c).before 0 t d))
    ∗ (∃ d, owns (c : Thread nD τ) (st2_1 t) fullShare ((datOf cfg2 W c).before 1 t d))
    ∗ (∃ d, owns (c : Thread nD τ) (st2_2 t) fullShare ((datOf cfg2 W c).before 2 t d))
    ∗ (∃ d, owns (c : Thread nD τ) (st2_3 t) fullShare ((datOf cfg2 W c).before 3 t d))
    ∗ (∃ d, owns (c : Thread nD τ) (st2_4 t) fullShare ((datOf cfg2 W c).before 4 t d))
    ∗ (∃ d, owns (c : Thread nD τ) (st2_5 t) fullShare ((datOf cfg2 W c).before 5 t d))
    ∗ (∃ d, owns (c : Thread nD τ) (st2_6 t) fullShare ((datOf cfg2 W c).before 6 t d))
    ∗ (∃ Y, ⌜((datOf cfg2 W c).toRRel (fun w => (cfg2.win w).isOut) Rl).Finds 7 t Y⌝ ∗ owns (c : Thread nD τ) (st2_7 t) fullShare Y))

/-- What it returns with. -/
def bodyPost2 (t : Fin cfg2.N) : sProp 𝕄 :=
  iprop((datOf cfg2 W c).Φ t.succ ∗ (datOf cfg2 W c).owesAt () t.succ
    ∗ owns (c : Thread nD τ) (st2_0 t) fullShare ((datOf cfg2 W c).after 0 t)
    ∗ owns (c : Thread nD τ) (st2_1 t) fullShare ((datOf cfg2 W c).after 1 t)
    ∗ (∃ d, owns (c : Thread nD τ) (st2_2 t) fullShare ((cfg2.win 2).fill (cfg2.grid.coords t) d ((cfg2.win 2).cut (cfg2.grid.coords t) ((datOf cfg2 W c).after 2 t))))
    ∗ owns (c : Thread nD τ) (st2_3 t) fullShare ((datOf cfg2 W c).after 3 t)
    ∗ owns (c : Thread nD τ) (st2_4 t) fullShare ((datOf cfg2 W c).after 4 t)
    ∗ owns (c : Thread nD τ) (st2_5 t) fullShare ((datOf cfg2 W c).after 5 t)
    ∗ owns (c : Thread nD τ) (st2_6 t) fullShare ((datOf cfg2 W c).after 6 t)
    ∗ (∃ X, ⌜Rl 7 t X⌝ ∗ owns (c : Thread nD τ) (st2_7 t) fullShare X))

/-- The body meets its obligation for every relation that its result meets. -/
theorem sound_body2 (h : Rel2 W Rl) (t : Fin cfg2.N) :
    bodyPre2 W c Rl t ⊢ wp frame (wpE (defs₀ (F := F)) Variants.none c none) Set.univ (bodyAt2 t) fun _ => bodyPost2 W c Rl t := by
  unfold bodyPre2 bodyPost2
  have e2 : ∀ d, (cfg2.win 2).fill (cfg2.grid.coords t) d ((cfg2.win 2).cut (cfg2.grid.coords t) ((datOf cfg2 W c).after 2 t)) = stageOf cfg2 W 2 t d :=
    fun d => fill_cut_stageOf cfg2 W 2 t d _
  rw [show (datOf cfg2 W c).Φ t.succ = (datOf cfg2 W c).Φ t.castSucc from rfl,
    show (datOf cfg2 W c).owesAt () t.succ = (datOf cfg2 W c).owesAt () t.castSucc from rfl]
  simp only [e2, before_datOf_fetch cfg2 W c 2 t (fetch2_2 t), before_datOf cfg2 W c 0 rfl (fun _ => rfl) (fun _ _ _ => rfl),
    before_datOf cfg2 W c 1 rfl (fun _ => rfl) (fun _ _ _ => rfl),
    before_datOf cfg2 W c 3 rfl (fun _ => rfl) (fun _ _ _ => rfl),
    before_datOf cfg2 W c 4 rfl (fun _ => rfl) (fun _ _ _ => rfl),
    before_datOf cfg2 W c 5 rfl (fun _ => rfl) (fun _ _ _ => rfl),
    before_datOf cfg2 W c 6 rfl (fun _ => rfl) (fun _ _ _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%Y7, -, H7⟩⟩
  iapply (sound_kernel2 c (grid2.coords t) _ _ _ _ _ _ _ _ _ _ _ _ _ _ _ _ (in2 W 0 t) (in2 W 1 t) (stageOf cfg2 W 2 t d2) (in2 W 3 t) (in2 W 4 t) (in2 W 5 t) (in2 W 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists Y7; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  iexists _; isplitr
  swap; · iexact H7
  ipureintro; exact h.w7 t d2

/-- The third region's body obligation. -/
theorem body_obligation2 (h : Rel2 W Rl) :
    Pipeline.BodyObligationRel (datOf cfg2 W c) (defs₀ (F := F)) Variants.none () Set.univ (fun w => (cfg2.win w).isOut) Rl := fun t => by
  rw [bigSep_W2, bigSep_W2, row2]
  exact triple_restated (sound_body2 W c Rl h t) rfl .rfl fun _ => .rfl

end Cert.KernelIdeal.Own

end
-- ==== Proof.Run.lean ====
/-
  THE KERNEL'S RUN. Whatever each region is shown to leave in its results, every execution of the program ends at buffers that are reached
  through the program's items in order: the host operations' contents exactly, and after a region any contents its windows may hold.
-/
module

public import proofs.«01_k».proof.Proof.Region0
public import proofs.«01_k».proof.Proof.Region1
public import proofs.«01_k».proof.Proof.Region2
public import proofs.«01_k».proof.Proof.Gen.KernelIdeal.Regions
public import Idealize.ShloMosaic.Lib.StableHlo.RunHlo

@[expose] public section

set_option maxRecDepth 16384

noncomputable section

namespace Cert.KernelIdeal.Own

open Cert.KernelIdeal Cert.KernelIdeal.Gen Cert.Rel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf arrRef)

variable {F : FTy → Type} [FloatOps F]

local notation "𝕄" => MT nD τ sig Unit (Elt F) ℕ (U2 sig nD τ) ℕ

/-- What is asserted of the results of the three regions, each entered at a valuation. -/
abbrev Results (F : FTy → Type) : Type := Valuation τ sig (Elt F) → (p : Fin 3) → (w : Fin (cfgs p).W) → Fin (cfgs p).N →
  (((cfgs p).win w).block.Idx → Elt F ((cfgs p).win w).elt) → Prop

/-- The assertions of three regions, put together. -/
def resultsOf (r0 : Valuation τ sig (Elt F) → (w : Fin cfg0.W) → Fin cfg0.N → ((cfg0.win w).block.Idx → Elt F (cfg0.win w).elt) → Prop)
    (r1 : Valuation τ sig (Elt F) → (w : Fin cfg1.W) → Fin cfg1.N → ((cfg1.win w).block.Idx → Elt F (cfg1.win w).elt) → Prop)
    (r2 : Valuation τ sig (Elt F) → (w : Fin cfg2.W) → Fin cfg2.N → ((cfg2.win w).block.Idx → Elt F (cfg2.win w).elt) → Prop) : Results F :=
  fun W p => match p with
  | 0 => r0 W
  | 1 => r1 W
  | 2 => r2 W

/-- The results are marked: what they hold is asserted, not computed. -/
abbrev marked (p : Fin 3) (w : Fin (cfgs p).W) : Bool := ((cfgs p).win w).isOut

/-- `W'` may be what region `p` leaves behind, entered at `W`: the windows' arrays as the assertions allow, every other buffer unchanged. -/
def After (Rl : Results F) (p : Fin 3) (c : Dev nD) (W W' : Valuation τ sig (Elt F)) : Prop :=
  (∀ w, ((datOf (cfgs p) W c).toRRel (marked p) (Rl W p)).ArrAt w (cfgs p).N (W' (Proc.devRef .tc (arrRef (cfgs p).spec w))))
    ∧ ∀ b : Ref sig .tc, (∀ w, arrRef (cfgs p).spec w ≠ b) → W' (Proc.devRef .tc b) = W (Proc.devRef .tc b)

variable (m : (ℓ : Loc nD τ sig) → Buf (Elt F) ℓ) (Rl : Results F)

/-- What the buffers may hold before each item of the program and after the last. -/
def Reach : Fin 7 → Dev nD → Valuation τ sig (Elt F) → Prop
  | 0 => fun c W => W = StableHlo.launchContents m c
  | 1 => fun c W => W = StableHlo.after hostOps0 (StableHlo.launchContents m c)
  | 2 => fun c W => After Rl 0 c (StableHlo.after hostOps0 (StableHlo.launchContents m c)) W
  | 3 => fun c W => ∃ A, After Rl 0 c (StableHlo.after hostOps0 (StableHlo.launchContents m c)) A ∧ W = StableHlo.after hostOps1 A
  | 4 => fun c W => ∃ A, After Rl 0 c (StableHlo.after hostOps0 (StableHlo.launchContents m c)) A ∧ After Rl 1 c (StableHlo.after hostOps1 A) W
  | 5 => fun c W => ∃ A B, After Rl 0 c (StableHlo.after hostOps0 (StableHlo.launchContents m c)) A ∧ After Rl 1 c (StableHlo.after hostOps1 A) B ∧ After Rl 2 c B W
  | 6 => fun c W => ∃ A B C, After Rl 0 c (StableHlo.after hostOps0 (StableHlo.launchContents m c)) A ∧ After Rl 1 c (StableHlo.after hostOps1 A) B
      ∧ After Rl 2 c B C ∧ W = StableHlo.after hostOps3 C

/-- Each region's body meets what is asserted of it. -/
structure Meets : Prop where
  /-- The first region. -/
  r0 : ∀ W, Rel0 W (Rl W 0)
  /-- The second. -/
  r1 : ∀ W, Rel1 W (Rl W 1)
  /-- The third. -/
  r2 : ∀ W, Rel2 W (Rl W 2)

variable {Rl}

/-- The obligation of every region's body. -/
theorem bodies (h : Meets Rl) (p : Fin 3) (W : Valuation τ sig (Elt F)) (c : Dev nD) :
    Pipeline.BodyObligationRel (datOf (cfgs p) W c) (defs₀ (F := F)) Variants.none () Set.univ (marked p) (Rl W p) := by
  match p with
  | 0 => exact body_obligation0 W c _ (h.r0 W)
  | 1 => exact body_obligation1 W c _ (h.r1 W)
  | 2 => exact body_obligation2 W c _ (h.r2 W)

/-- The launch facts of every region. -/
def kits (p : Fin 3) : Pipeline.PLaunchFacts (nD := nD) (τ := τ) (pcfgs (F := F)) p :=
  match p with
  | 0 => launch0.toP
  | 1 => launch1.toP
  | 2 => launch2.toP

/-- Region `p` as an item, from what may be held before it to what may be held after. -/
def regionItem (h : Meets Rl) (p : Fin 3) (Q Q' : Dev nD → Valuation τ sig (Elt F) → Prop)
    (hQ : ∀ c W W', Q c W → After Rl p c W W' → Q' c W') (E : Dev nD → sProp 𝕄) :
    Pipeline.HostSeg (Ix := Unit) (Name := ℕ) (U := U2 sig nD τ) (Lvl := ℕ) (pcfgs (F := F)) (defs₀ (F := F)) Variants.none L0 lv0 :=
  regionRel cfgs defs₀ Variants.none (fun W p c => datOf (cfgs p) W c) marked Rl cellOf_inj p (kits p) (bodies h p)
    (fun _ _ _ => rfl) (fun _ _ _ => rfl) (fun _ _ => rfl) (fun _ _ w => by unfold Dat.share; split <;> rfl) (fun _ _ _ => rfl) Q Q' (fun c W W' hW ha hb => hQ c W W' hW ⟨ha, hb⟩) E

/-- What the regions from `p` on spend. -/
def later (c : Dev nD) : Fin 4 → sProp 𝕄
  | 0 => iprop(ghost cfgs 0 c ∗ ghost cfgs 1 c ∗ ghost cfgs 2 c ∗ emp)
  | 1 => iprop(ghost cfgs 1 c ∗ ghost cfgs 2 c ∗ emp)
  | 2 => iprop(ghost cfgs 2 c ∗ emp)
  | 3 => iprop(emp)

/-- The program's items. -/
def items (h : Meets Rl) : List (Pipeline.HostSeg (Ix := Unit) (Name := ℕ) (U := U2 sig nD τ) (Lvl := ℕ) (pcfgs (F := F)) (defs₀ (F := F)) Variants.none L0 lv0) :=
  [ hostRel cfgs defs₀ Variants.none hostOps0 hostOps0_sub hostOps0_fresh (Reach m Rl 0) (Reach m Rl 1)
      (fun c W hW => by rw [show W = _ from hW]; rfl) (fun c => later c 0),
    regionItem h 0 (Reach m Rl 1) (Reach m Rl 2) (fun c W W' hW ha => by rw [show W = _ from hW] at ha; exact ha) (fun c => later c 1),
    hostRel cfgs defs₀ Variants.none hostOps1 hostOps1_sub hostOps1_fresh (Reach m Rl 2) (Reach m Rl 3)
      (fun c W hW => ⟨W, hW, rfl⟩) (fun c => later c 1),
    regionItem h 1 (Reach m Rl 3) (Reach m Rl 4) (fun c W W' ⟨A, hA, hW⟩ ha => by subst hW; exact ⟨A, hA, ha⟩) (fun c => later c 2),
    regionItem h 2 (Reach m Rl 4) (Reach m Rl 5) (fun c W W' ⟨A, hA, hW⟩ ha => ⟨A, W, hA, hW, ha⟩) (fun c => later c 3),
    hostRel cfgs defs₀ Variants.none hostOps3 hostOps3_sub hostOps3_fresh (Reach m Rl 5) (Reach m Rl 6)
      (fun c W ⟨A, B, hA, hB, hW⟩ => ⟨A, B, W, hA, hB, hW, rfl⟩) (fun c => later c 3) ]

/-- THE RUN: from any memory every execution terminates, the unscoped buffers end at contents reached through the program's items, and
    every counter ends at zero. -/
theorem run (h : Meets Rl) (g : Dev nD → PrngReg) :
    θ_run (defs (F := F)) (onTc (τ := τ) (main (F := F))) ⟨m, fun _ => 0, g⟩ fun r =>
      (∀ c : Dev nD, ∃ W, Reach m Rl 6 c W ∧ ∀ b ∈ Pipeline.ucRefs τ sig, r.2.mem (c, b) = W b) ∧ r.2.sem = fun _ => 0 := by
  refine θ_run_rel cfgs defs₀ Variants.none cellOf_inj (fun p c => datOf (cfgs p) (StableHlo.launchContents m c) c) regions_no_unscoped m g main
    (items m h) (fun c => main_chain c) (Reach m Rl 6) (fun c => ⟨?_, .rfl, .rfl, .rfl, .rfl, .rfl, .rfl⟩)
  show St (fun c W => W = StableHlo.launchContents m c) (fun c => bigSep Finset.univ fun p : Fin 3 => ghost cfgs p c) c ⊢ St (Reach m Rl 0) (fun c => later c 0) c
  unfold St
  refine BI.sep_mono (Entails.refl _) (BI.sep_mono (Entails.refl _) ?_)
  show (bigSep Finset.univ fun p : Fin 3 => ghost cfgs p c) ⊢ later c 0
  rw [Ring.bigSep_fin3]
  unfold later
  iintro ⟨H0, H1, H2⟩
  isplitl [H0]; · iexact H0
  isplitl [H1]; · iexact H1
  isplitl [H2]; · iexact H2
  iempintro

end Cert.KernelIdeal.Own

end
-- ==== Proof.Frame.lean ====
/-
  WHAT THE PROGRAM LEAVES ALONE. A region changes no buffer but the arrays of its results, a host operation none but its own result, so the
  arguments end as they were.
-/
module

public import proofs.«01_k».proof.Proof.Run

@[expose] public section

set_option maxRecDepth 16384

noncomputable section

namespace Cert.KernelIdeal.Own

open Cert.KernelIdeal Cert.KernelIdeal.Gen Cert.Rel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf arrRef)

variable {F : FTy → Type} [FloatOps F]

local notation "𝕄" => MT nD τ sig Unit (Elt F) ℕ (U2 sig nD τ) ℕ

/-- The arguments. -/
abbrev argRefs : List (Ref sig .tc) := [main_arg0, main_arg1, main_arg2, main_arg3, main_arg4, main_arg5, main_arg6, main_arg7, main_arg8,
  main_arg9, main_arg10, main_arg11, main_arg12, main_arg13, main_arg14, main_arg15]

/-- The arrays of the results of region `p`. -/
abbrev outRefs : Fin 3 → List (Ref sig .tc)
  | 0 => [main_v14_0, main_v14_1]
  | 1 => [main_v16_0, main_v16_1]
  | 2 => [main_v17]

/-- The arrays of the marked windows are those. -/
theorem out_mem : ∀ (p : Fin 3) (w : Fin (cfgs p).W), ((cfgs p).win w).isOut = true → arrRef (cfgs p).spec w ∈ outRefs p
  | 0 => by decide
  | 1 => by decide
  | 2 => by decide

variable {m : (ℓ : Loc nD τ sig) → Buf (Elt F) ℓ} {Rl : Results F}

/-- A region leaves every buffer alone that is not the array of one of its results. -/
theorem After.keep {p : Fin 3} {c : Dev nD} {W W' : Valuation τ sig (Elt F)} (h : After Rl p c W W') (b : Ref sig .tc) (hb : b ∉ outRefs p) :
    W' (Proc.devRef .tc b) = W (Proc.devRef .tc b) := by
  by_cases hw : ∃ w, arrRef (cfgs p).spec w = b
  · obtain ⟨w, rfl⟩ := hw
    have hin : ((cfgs p).win w).isOut = false := by
      cases ho : ((cfgs p).win w).isOut with
      | false => rfl
      | true => exact absurd (out_mem p w ho) hb
    have hA := h.1 w
    rw [Pipeline.RDat.ArrAt_in _ w hin] at hA
    exact hA
  · exact h.2 b fun w e => hw ⟨w, e⟩

/-- What no item writes ends as it was launched. -/
theorem Reach.keep {c : Dev nD} {W : Valuation τ sig (Elt F)} (h : Reach m Rl 6 c W) (b : Ref sig .tc)
    (hb : b ∉ hostOps0_W ++ hostOps1_W ++ hostOps3_W ++ outRefs 0 ++ outRefs 1 ++ outRefs 2) :
    W (Proc.devRef .tc b) = m ((c.tc : Thread nD τ).loc b) := by
  obtain ⟨A, B, C, hA, hB, hC, rfl⟩ := h
  simp only [List.mem_append, not_or] at hb
  obtain ⟨⟨⟨⟨⟨h0, h1⟩, h3⟩, g0⟩, g1⟩, g2⟩ := hb
  rw [StableHlo.after_of_writes_sub hostOps3 _ hostOps3_writes h3, hC.keep b g2, hB.keep b g1,
    StableHlo.after_of_writes_sub hostOps1 _ hostOps1_writes h1, hA.keep b g0, StableHlo.after_of_writes_sub hostOps0 _ hostOps0_writes h0]

/-- The arguments are written by no item. -/
theorem args_unwritten : ∀ b ∈ argRefs, b ∉ hostOps0_W ++ hostOps1_W ++ hostOps3_W ++ outRefs 0 ++ outRefs 1 ++ outRefs 2 := by decide

/-- The arguments and the results are unscoped buffers. -/
theorem mem_uc (b : Ref sig .tc) (hb : b ∈ argRefs ++ [main_v18, main_v19]) : (Proc.devRef .tc b : DevRef τ sig) ∈ Pipeline.ucRefs τ sig :=
  Finset.mem_filter.mpr ⟨StableHlo.devRef_mem_tcRefs b,
    (by decide : ∀ b ∈ argRefs ++ [main_v18, main_v19], ¬ (Proc.devRef .tc b : DevRef τ sig).isScoped = true) b hb⟩

/-- Nothing asserted of the results. -/
def nothing : Results F := fun _ _ _ _ _ => True

/-- Nothing is met by every body. -/
theorem nothing_meets : Meets (nothing (F := F)) where
  r0 _ := ⟨fun _ => trivial, fun _ => trivial⟩
  r1 _ := ⟨fun _ _ => trivial, fun _ _ _ _ _ => trivial, fun _ _ _ _ _ _ => trivial⟩
  r2 _ := ⟨fun _ _ => trivial⟩

/-- THE FRAME: every execution terminates without fault, leaves the arguments as they were and every counter at zero. -/
theorem frame_run (m : (ℓ : Loc nD τ sig) → Buf (Elt F) ℓ) (g : Dev nD → PrngReg) :
    θ_run (defs (F := F)) (onTc (τ := τ) (main (F := F))) ⟨m, fun _ => 0, g⟩ fun r =>
      (∀ c : Dev nD, ∀ b ∈ argRefs, r.2.mem ((c.tc : Thread nD τ).loc b) = m ((c.tc : Thread nD τ).loc b)) ∧ r.2.sem = fun _ => 0 := by
  refine θ_run_mono (run m nothing_meets g) fun r ⟨h, hs⟩ => ?_
  refine ⟨fun c b hb => ?_, hs⟩
  obtain ⟨W, hW, hr⟩ := h c
  exact (hr _ (mem_uc b (List.mem_append_left _ hb))).trans (hW.keep b (args_unwritten b hb))

end Cert.KernelIdeal.Own

end
-- ==== Proof.KernelFrame.lean ====
/-
  THE FRAME OF THE KERNEL AS PRINTED. Nothing was rewritten in its idealization: over the machine's words the two programs are one and the same,
  so the frame, proved for the idealization over any floats, is the kernel's.
-/
module

public import proofs.«01_k».proof.Proof.Frame
public import proofs.«01_k».proof.Proof.Gen.Kernel
public import Idealize.ShloMosaic.PureOps.BitExact

@[expose] public section

set_option maxRecDepth 16384

noncomputable section

namespace Cert.Kernel.Own

open Idealize.ShloMosaic Idealize.SL.Sem

set_option maxHeartbeats 4000000 in
/-- The bodies of the kernels are the idealization's. -/
theorem bodies_eq : Cert.Kernel.defs₀ (F := Bits) = Cert.KernelIdeal.defs₀ (F := Bits) := by
  unfold Cert.Kernel.defs₀ Cert.KernelIdeal.defs₀
  refine congrArg Defs.onTc ?_
  funext x y
  match x, y with
  | 0, (t, s) => rfl
  | 1, (t, s) => rfl
  | 2, (t, s) => rfl

set_option maxHeartbeats 4000000 in
/-- So are the bodies with the regions'. -/
theorem defs_eq : Cert.Kernel.defs (F := Bits) = Cert.KernelIdeal.defs (F := Bits) :=
  congrArg (Pipeline.defs (Cert.KernelIdeal.pcfgs (F := Bits))) bodies_eq

set_option maxHeartbeats 4000000 in
/-- So is the program. -/
theorem main_eq : Cert.Kernel.main (F := Bits) = Cert.KernelIdeal.main (F := Bits) := rfl

set_option maxHeartbeats 4000000 in
/-- THE KERNEL'S FRAME: every execution terminates without fault, leaves the arguments as they were and every counter at zero. -/
theorem frame_run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ fun r =>
      (∀ c : Dev Cert.Kernel.nD, ∀ b ∈ Cert.KernelIdeal.Own.argRefs,
        r.2.mem ((c.tc : Thread Cert.Kernel.nD Cert.Kernel.τ).loc b) = m ((c.tc : Thread Cert.Kernel.nD Cert.Kernel.τ).loc b)) ∧ r.2.sem = fun _ => 0 := by
  rw [defs_eq, main_eq]
  exact Cert.KernelIdeal.Own.frame_run (F := Bits) m g

end Cert.Kernel.Own

end
-- ==== Proof.Blocks.lean ====
/-
  WHAT THE BODIES FIND IN THEIR INPUT WINDOWS, element by element: the element of the array that the block places there, for every element
  inside the array.
-/
module

public import proofs.«01_k».proof.Proof.Frame
public import Idealize.ShloMosaic.Lib.Pipeline.ValueKit
public import Idealize.ShloMosaic.Lib.Pipeline.ArrRel

@[expose] public section

set_option maxRecDepth 16384

noncomputable section

namespace Cert.KernelIdeal.Own

open Cert.KernelIdeal Cert.KernelIdeal.Gen Cert.Rel
open Idealize.ShloMosaic Idealize.ShloMosaic.TcCoe

variable {F : FTy → Type} [FloatOps F]

/-- A coordinate of a block is moved when its place lies inside the array. -/
theorem moved_of {G : Pipeline.Grid} (w : Pipeline.Window sig G) (i : G.Coords) (j : w.block.Idx)
    (h : ∀ a, w.kind.off (w.indexMap i a) (w.size a) + (j a).val < w.shape.size a) : w.moved i j = true := by
  refine (w.moved_iff i j).mpr fun a => ?_
  have hc := w.hclip i a
  have hj := (j a).isLt
  have ha := h a
  unfold Pipeline.Window.xsize
  cases e : w.clip i a with
  | none => exact hj
  | some n =>
    rw [e] at hc
    have h3 := hc.2.2
    show (j a).val < n
    omega

/-- A moved element of a fetched block is the array's. -/
theorem stageOf_moved (cfg : Pipeline.Cfg sig Λ₀) (W : Valuation τ sig (Elt F)) (w : Fin cfg.W) (t : Fin cfg.N) (d) (j : (cfg.win w).block.Idx)
    (h : (cfg.win w).moved (cfg.grid.coords t) j = true) :
    stageOf cfg W w t d j = ((cfg.win w).blk t).view.read (Elt F) (W (Proc.devRef .tc (Pipeline.arrRef cfg.spec w)))
      fun a => ⟨(j a).val, ((cfg.win w).moved_iff _ j).mp h a⟩ := by
  unfold stageOf Pipeline.Window.fill
  rw [dif_pos h]

/-! ### Region 0 -/

theorem idx0_0 : ∀ t : Fin cfg0.N, win0_0.index t = ![t.val, 0] := (by decide +kernel : ∀ t : Fin grid0.N, _)

theorem blk0_0 (W : Valuation τ sig (Elt F)) (t : Fin cfg0.N) (d) (r : Fin 128) (k : Fin 512) (h : 128 * t.val + r.val < 1024) :
    stageOf cfg0 W 0 t d (ix2 r k) = W main_v0 (ix2 (⟨128 * t.val + r.val, h⟩ : Fin 1024) k) := by
  have hm : (cfg0.win 0).moved (cfg0.grid.coords t) (ix2 r k) = true := (Pipeline.Window.moved_iff _ _ _).mpr fun a => by
    fin_cases a
    · exact r.isLt
    · exact k.isLt
  rw [stageOf_moved cfg0 W 0 t d _ hm]
  show W main_v0 _ = _
  congr 1
  blk_ext [idx0_0 t]

theorem idx0_1 : ∀ t : Fin cfg0.N, win0_1.index t = ![t.val, 0] := (by decide +kernel : ∀ t : Fin grid0.N, _)

theorem blk0_1 (W : Valuation τ sig (Elt F)) (t : Fin cfg0.N) (d) (r : Fin 128) (k : Fin 512) (h : 128 * t.val + r.val < 1024) :
    stageOf cfg0 W 1 t d (ix2 r k) = W main_v1 (ix2 (⟨128 * t.val + r.val, h⟩ : Fin 1024) k) := by
  have hm : (cfg0.win 1).moved (cfg0.grid.coords t) (ix2 r k) = true := (Pipeline.Window.moved_iff _ _ _).mpr fun a => by
    fin_cases a
    · exact r.isLt
    · exact k.isLt
  rw [stageOf_moved cfg0 W 1 t d _ hm]
  show W main_v1 _ = _
  congr 1
  blk_ext [idx0_1 t]

theorem idx0_2 : ∀ t : Fin cfg0.N, win0_2.index t = ![t.val, 0] := (by decide +kernel : ∀ t : Fin grid0.N, _)

theorem blk0_2 (W : Valuation τ sig (Elt F)) (t : Fin cfg0.N) (d) (r : Fin 128) (k : Fin 400) (h : 128 * t.val + r.val < 1024) :
    stageOf cfg0 W 2 t d (ix2 r k) = W main_v2 (ix2 (⟨128 * t.val + r.val, h⟩ : Fin 1024) k) := by
  have hm : (cfg0.win 2).moved (cfg0.grid.coords t) (ix2 r k) = true := (Pipeline.Window.moved_iff _ _ _).mpr fun a => by
    fin_cases a
    · exact r.isLt
    · exact k.isLt
  rw [stageOf_moved cfg0 W 2 t d _ hm]
  show W main_v2 _ = _
  congr 1
  blk_ext [idx0_2 t]

theorem idx0_3 : ∀ t : Fin cfg0.N, win0_3.index t = ![t.val, 0] := (by decide +kernel : ∀ t : Fin grid0.N, _)

theorem blk0_3 (W : Valuation τ sig (Elt F)) (t : Fin cfg0.N) (d) (r : Fin 400) (k : Fin 512) (h : 400 * t.val + r.val < 3200) :
    stageOf cfg0 W 3 t d (ix2 r k) = W main_v6 (ix2 (⟨400 * t.val + r.val, h⟩ : Fin 3200) k) := by
  have hm : (cfg0.win 3).moved (cfg0.grid.coords t) (ix2 r k) = true := (Pipeline.Window.moved_iff _ _ _).mpr fun a => by
    fin_cases a
    · exact r.isLt
    · exact k.isLt
  rw [stageOf_moved cfg0 W 3 t d _ hm]
  show W main_v6 _ = _
  congr 1
  blk_ext [idx0_3 t]

theorem idx0_4 : ∀ t : Fin cfg0.N, win0_4.index t = ![0, 0] := (by decide +kernel : ∀ t : Fin grid0.N, _)

theorem blk0_4 (W : Valuation τ sig (Elt F)) (t : Fin cfg0.N) (d) (r : Fin 1) (k : Fin 512) :
    stageOf cfg0 W 4 t d (ix2 r k) = W main_v7 (ix2 r k) := by
  have hm : (cfg0.win 4).moved (cfg0.grid.coords t) (ix2 r k) = true := (Pipeline.Window.moved_iff _ _ _).mpr fun a => by
    fin_cases a
    · exact r.isLt
    · exact k.isLt
  rw [stageOf_moved cfg0 W 4 t d _ hm]
  show W main_v7 _ = _
  congr 1
  blk_ext [idx0_4 t]

theorem idx0_5 : ∀ t : Fin cfg0.N, win0_5.index t = ![0, 0] := (by decide +kernel : ∀ t : Fin grid0.N, _)

theorem blk0_5 (W : Valuation τ sig (Elt F)) (t : Fin cfg0.N) (d) (r : Fin 1) (k : Fin 512) :
    stageOf cfg0 W 5 t d (ix2 r k) = W main_v8 (ix2 r k) := by
  have hm : (cfg0.win 5).moved (cfg0.grid.coords t) (ix2 r k) = true := (Pipeline.Window.moved_iff _ _ _).mpr fun a => by
    fin_cases a
    · exact r.isLt
    · exact k.isLt
  rw [stageOf_moved cfg0 W 5 t d _ hm]
  show W main_v8 _ = _
  congr 1
  blk_ext [idx0_5 t]

theorem idx0_6 : ∀ t : Fin cfg0.N, win0_6.index t = ![0, 0] := (by decide +kernel : ∀ t : Fin grid0.N, _)

theorem blk0_6 (W : Valuation τ sig (Elt F)) (t : Fin cfg0.N) (d) (r : Fin 1) (k : Fin 512) :
    stageOf cfg0 W 6 t d (ix2 r k) = W main_arg9 (ix2 r k) := by
  have hm : (cfg0.win 6).moved (cfg0.grid.coords t) (ix2 r k) = true := (Pipeline.Window.moved_iff _ _ _).mpr fun a => by
    fin_cases a
    · exact r.isLt
    · exact k.isLt
  rw [stageOf_moved cfg0 W 6 t d _ hm]
  show W main_arg9 _ = _
  congr 1
  blk_ext [idx0_6 t]

theorem idx0_7 : ∀ t : Fin cfg0.N, win0_7.index t = ![0, 0] := (by decide +kernel : ∀ t : Fin grid0.N, _)

theorem blk0_7 (W : Valuation τ sig (Elt F)) (t : Fin cfg0.N) (d) (r : Fin 1) (k : Fin 512) :
    stageOf cfg0 W 7 t d (ix2 r k) = W main_arg11 (ix2 r k) := by
  have hm : (cfg0.win 7).moved (cfg0.grid.coords t) (ix2 r k) = true := (Pipeline.Window.moved_iff _ _ _).mpr fun a => by
    fin_cases a
    · exact r.isLt
    · exact k.isLt
  rw [stageOf_moved cfg0 W 7 t d _ hm]
  show W main_arg11 _ = _
  congr 1
  blk_ext [idx0_7 t]

theorem idx0_8 : ∀ t : Fin cfg0.N, win0_8.index t = ![0, 0] := (by decide +kernel : ∀ t : Fin grid0.N, _)

theorem blk0_8 (W : Valuation τ sig (Elt F)) (t : Fin cfg0.N) (d) (r : Fin 1) (k : Fin 512) :
    stageOf cfg0 W 8 t d (ix2 r k) = W main_arg13 (ix2 r k) := by
  have hm : (cfg0.win 8).moved (cfg0.grid.coords t) (ix2 r k) = true := (Pipeline.Window.moved_iff _ _ _).mpr fun a => by
    fin_cases a
    · exact r.isLt
    · exact k.isLt
  rw [stageOf_moved cfg0 W 8 t d _ hm]
  show W main_arg13 _ = _
  congr 1
  blk_ext [idx0_8 t]

theorem idx0_9 : ∀ t : Fin cfg0.N, win0_9.index t = ![0, 0] := (by decide +kernel : ∀ t : Fin grid0.N, _)

theorem blk0_9 (W : Valuation τ sig (Elt F)) (t : Fin cfg0.N) (d) (r : Fin 1) (k : Fin 1) :
    stageOf cfg0 W 9 t d (ix2 r k) = W main_v13 (ix2 r k) := by
  have hm : (cfg0.win 9).moved (cfg0.grid.coords t) (ix2 r k) = true := (Pipeline.Window.moved_iff _ _ _).mpr fun a => by
    fin_cases a
    · exact r.isLt
    · exact k.isLt
  rw [stageOf_moved cfg0 W 9 t d _ hm]
  show W main_v13 _ = _
  congr 1
  blk_ext [idx0_9 t]

/-! ### Region 1 -/

theorem idx1_1 : ∀ t : Fin cfg1.N, win1_1.index t = ![t.val, 0] := (by decide +kernel : ∀ t : Fin grid1.N, _)

theorem blk1_1 (W : Valuation τ sig (Elt F)) (t : Fin cfg1.N) (d) (r : Fin 4096) (k : Fin 512) (h : 4096 * t.val + r.val < 50000) :
    stageOf cfg1 W 1 t d (ix2 r k) = W main_arg7 (ix2 (⟨4096 * t.val + r.val, h⟩ : Fin 50000) k) := by
  have hm : (cfg1.win 1).moved (cfg1.grid.coords t) (ix2 r k) = true := moved_of (cfg1.win 1) _ _ fun a => by
    have e := congrFun (idx1_1 t) a
    show win1_1.index t a * _ + _ < _
    rw [e]
    fin_cases a
    · show t.val * 4096 + r.val < 50000; omega
    · show 0 * 512 + k.val < 512; omega
  rw [stageOf_moved cfg1 W 1 t d _ hm]
  show W main_arg7 _ = _
  congr 1
  blk_ext [idx1_1 t]

theorem idx1_2 : ∀ t : Fin cfg1.N, win1_2.index t = ![t.val, 0] := (by decide +kernel : ∀ t : Fin grid1.N, _)

theorem blk1_2 (W : Valuation τ sig (Elt F)) (t : Fin cfg1.N) (d) (r : Fin 4096) (k : Fin 1) (h : 4096 * t.val + r.val < 50000) :
    stageOf cfg1 W 2 t d (ix2 r k) = W main_v9 (ix2 (⟨4096 * t.val + r.val, h⟩ : Fin 50000) k) := by
  have hm : (cfg1.win 2).moved (cfg1.grid.coords t) (ix2 r k) = true := moved_of (cfg1.win 2) _ _ fun a => by
    have e := congrFun (idx1_2 t) a
    show win1_2.index t a * _ + _ < _
    rw [e]
    fin_cases a
    · show t.val * 4096 + r.val < 50000; omega
    · show 0 * 1 + k.val < 1; omega
  rw [stageOf_moved cfg1 W 2 t d _ hm]
  show W main_v9 _ = _
  congr 1
  blk_ext [idx1_2 t]

theorem idx1_0 : ∀ t : Fin cfg1.N, win1_0.index t = ![0, 0] := (by decide +kernel : ∀ t : Fin grid1.N, _)

theorem blk1_0 (W : Valuation τ sig (Elt F)) (t : Fin cfg1.N) (d) (r : Fin 1024) (k : Fin 512) :
    stageOf cfg1 W 0 t d (ix2 r k) = W main_v14_1 (ix2 r k) := by
  have hm : (cfg1.win 0).moved (cfg1.grid.coords t) (ix2 r k) = true := (Pipeline.Window.moved_iff _ _ _).mpr fun a => by
    fin_cases a
    · exact r.isLt
    · exact k.isLt
  rw [stageOf_moved cfg1 W 0 t d _ hm]
  show W main_v14_1 _ = _
  congr 1
  blk_ext [idx1_0 t]

/-! ### Region 2 -/

theorem idx2_0 : ∀ t : Fin cfg2.N, win2_0.index t = ![t.val, 0] := (by decide +kernel : ∀ t : Fin grid2.N, _)

theorem blk2_0 (W : Valuation τ sig (Elt F)) (t : Fin cfg2.N) (d) (r : Fin 2048) (k : Fin 512) (h : 2048 * t.val + r.val < 53248) :
    stageOf cfg2 W 0 t d (ix2 r k) = W main_v16_0 (ix2 (⟨2048 * t.val + r.val, h⟩ : Fin 53248) k) := by
  have hm : (cfg2.win 0).moved (cfg2.grid.coords t) (ix2 r k) = true := (Pipeline.Window.moved_iff _ _ _).mpr fun a => by
    fin_cases a
    · exact r.isLt
    · exact k.isLt
  rw [stageOf_moved cfg2 W 0 t d _ hm]
  show W main_v16_0 _ = _
  congr 1
  blk_ext [idx2_0 t]

theorem idx2_2 : ∀ t : Fin cfg2.N, win2_2.index t = ![t.val, 0] := (by decide +kernel : ∀ t : Fin grid2.N, _)

theorem blk2_2 (W : Valuation τ sig (Elt F)) (t : Fin cfg2.N) (d) (r : Fin 2048) (k : Fin 1) (h : 2048 * t.val + r.val < 50000) :
    stageOf cfg2 W 2 t d (ix2 r k) = W main_v9 (ix2 (⟨2048 * t.val + r.val, h⟩ : Fin 50000) k) := by
  have hm : (cfg2.win 2).moved (cfg2.grid.coords t) (ix2 r k) = true := moved_of (cfg2.win 2) _ _ fun a => by
    have e := congrFun (idx2_2 t) a
    show win2_2.index t a * _ + _ < _
    rw [e]
    fin_cases a
    · show t.val * 2048 + r.val < 50000; omega
    · show 0 * 1 + k.val < 1; omega
  rw [stageOf_moved cfg2 W 2 t d _ hm]
  show W main_v9 _ = _
  congr 1
  blk_ext [idx2_2 t]

theorem idx2_1 : ∀ t : Fin cfg2.N, win2_1.index t = ![0, 0] := (by decide +kernel : ∀ t : Fin grid2.N, _)

theorem blk2_1 (W : Valuation τ sig (Elt F)) (t : Fin cfg2.N) (d) (r : Fin 1024) (k : Fin 512) :
    stageOf cfg2 W 1 t d (ix2 r k) = W main_v14_1 (ix2 r k) := by
  have hm : (cfg2.win 1).moved (cfg2.grid.coords t) (ix2 r k) = true := (Pipeline.Window.moved_iff _ _ _).mpr fun a => by
    fin_cases a
    · exact r.isLt
    · exact k.isLt
  rw [stageOf_moved cfg2 W 1 t d _ hm]
  show W main_v14_1 _ = _
  congr 1
  blk_ext [idx2_1 t]

theorem idx2_3 : ∀ t : Fin cfg2.N, win2_3.index t = ![0, 0] := (by decide +kernel : ∀ t : Fin grid2.N, _)

theorem blk2_3 (W : Valuation τ sig (Elt F)) (t : Fin cfg2.N) (d) (r : Fin 1) (k : Fin 1024) :
    stageOf cfg2 W 3 t d (ix2 r k) = W main_v16_1 (ix2 r k) := by
  have hm : (cfg2.win 3).moved (cfg2.grid.coords t) (ix2 r k) = true := (Pipeline.Window.moved_iff _ _ _).mpr fun a => by
    fin_cases a
    · exact r.isLt
    · exact k.isLt
  rw [stageOf_moved cfg2 W 3 t d _ hm]
  show W main_v16_1 _ = _
  congr 1
  blk_ext [idx2_3 t]

theorem idx2_4 : ∀ t : Fin cfg2.N, win2_4.index t = ![0, 0] := (by decide +kernel : ∀ t : Fin grid2.N, _)

theorem blk2_4 (W : Valuation τ sig (Elt F)) (t : Fin cfg2.N) (d) (r : Fin 1) (k : Fin 1024) :
    stageOf cfg2 W 4 t d (ix2 r k) = W main_v15 (ix2 r k) := by
  have hm : (cfg2.win 4).moved (cfg2.grid.coords t) (ix2 r k) = true := (Pipeline.Window.moved_iff _ _ _).mpr fun a => by
    fin_cases a
    · exact r.isLt
    · exact k.isLt
  rw [stageOf_moved cfg2 W 4 t d _ hm]
  show W main_v15 _ = _
  congr 1
  blk_ext [idx2_4 t]

theorem idx2_5 : ∀ t : Fin cfg2.N, win2_5.index t = ![0, 0] := (by decide +kernel : ∀ t : Fin grid2.N, _)

theorem blk2_5 (W : Valuation τ sig (Elt F)) (t : Fin cfg2.N) (d) (r : Fin 3200) (k : Fin 128) :
    stageOf cfg2 W 5 t d (ix2 r k) = W main_v5 (ix2 r k) := by
  have hm : (cfg2.win 5).moved (cfg2.grid.coords t) (ix2 r k) = true := (Pipeline.Window.moved_iff _ _ _).mpr fun a => by
    fin_cases a
    · exact r.isLt
    · exact k.isLt
  rw [stageOf_moved cfg2 W 5 t d _ hm]
  show W main_v5 _ = _
  congr 1
  blk_ext [idx2_5 t]

theorem idx2_6 : ∀ t : Fin cfg2.N, win2_6.index t = ![0, 0] := (by decide +kernel : ∀ t : Fin grid2.N, _)

theorem blk2_6 (W : Valuation τ sig (Elt F)) (t : Fin cfg2.N) (d) (r : Fin 8) (k : Fin 400) :
    stageOf cfg2 W 6 t d (ix2 r k) = W main_arg4 (ix2 r k) := by
  have hm : (cfg2.win 6).moved (cfg2.grid.coords t) (ix2 r k) = true := (Pipeline.Window.moved_iff _ _ _).mpr fun a => by
    fin_cases a
    · exact r.isLt
    · exact k.isLt
  rw [stageOf_moved cfg2 W 6 t d _ hm]
  show W main_arg4 _ = _
  congr 1
  blk_ext [idx2_6 t]

/-! ### What the regions leave -/

variable {Rl : Results F} {p : Fin 3} {c : Dev nD} {W W' : Valuation τ sig (Elt F)}

/-- An element of a result's array after a region is an element of something that the body may have left at a point that writes back,
    at an index that the point's block places there. -/
theorem After.read (h : After Rl p c W W') (w : Fin (cfgs p).W) (hm : marked p w = true) (hcov : ((cfgs p).win w).Covers)
    (harr : ((cfgs p).win w).arr.IsWhole) (i : (Proc.devRef .tc (Pipeline.arrRef (cfgs p).spec w) : DevRef τ sig).ty.Idx) :
    ∃ (t : Fin (cfgs p).N) (y : (((cfgs p).win w).xblock ((cfgs p).grid.coords t)).Idx) (X : _), Rl W p w t X ∧ ((cfgs p).win w).flush t = true ∧ (((cfgs p).win w).blk t).view.emb y = i
      ∧ W' (Proc.devRef .tc (Pipeline.arrRef (cfgs p).spec w)) i
        = _root_.cast (congrArg (Elt F) (((cfgs p).win w).blk t).view.elt_eq.symm) (X (((cfgs p).win w).xinj ((cfgs p).grid.coords t) y)) := by
  obtain ⟨after, hL, hA⟩ := Pipeline.RDat.ArrAt.exists_exact_all h.1
  have e := hA w
  have P := Pipeline.Dat.arrAt_forall_of_covers (((datOf (cfgs p) W c).toRRel (marked p) (Rl W p)).withAfter after) w
    (fun i v => ∃ (t : Fin (cfgs p).N) (y : (((cfgs p).win w).xblock ((cfgs p).grid.coords t)).Idx) (X : _), Rl W p w t X ∧ ((cfgs p).win w).flush t = true ∧ (((cfgs p).win w).blk t).view.emb y = i
      ∧ v = _root_.cast (congrArg (Elt F) (((cfgs p).win w).blk t).view.elt_eq.symm) (X (((cfgs p).win w).xinj ((cfgs p).grid.coords t) y)))
    hcov (fun t hf y => ⟨t, y, after w t, Pipeline.Dat.toRRel_leaves (datOf (cfgs p) W c) hm (hL w t t.isLt hf), hf, rfl, rfl⟩) i harr
  rw [← e] at P
  exact P

end Cert.KernelIdeal.Own

end
-- ==== Proof.PayAt.lean ====
/-
  THE BODIES' RESULTS AT AN INDEX, over the extended reals.
-/
module

public import proofs.«01_k».proof.Proof.Frame
public import Idealize.ShloMosaic.Lib.Pointwise

@[expose] public section

set_option maxRecDepth 16384

noncomputable section

namespace Cert.KernelIdeal.Own

open Cert.KernelIdeal Cert.KernelIdeal.Gen Cert.Rel
open Idealize.ShloMosaic Idealize.ShloMosaic.TcCoe

/-- The gate's block at a row. -/
theorem out10_at (x0 x1 : Vec Ideal S128x512 .f32) (x2 : Vec Ideal S128x400 .f32) (x3 : Vec Ideal S400x512 .f32) (x6 x7 x8 : Vec Ideal S1x512 .f32)
    (x9 : Vec Ideal S1x1 .f32) (r : Fin 128) :
    out10 x0 x1 x2 x3 x6 x7 x8 x9 (ix2 r 0) = Ideal.div 1 (1 + Ideal.exp (0 - (∑ d, ((∑ s, x2 (ix2 r s) * x3 (ix2 s d)) * x6 (ix2 0 d)
      + x0 (ix2 r d) * x7 (ix2 0 d) + x1 (ix2 r d) * x8 (ix2 0 d)) + x9 (ix2 0 0)))) := by
  unfold out10
  pointwise [k0_pay1, k0_pay2, k0_pay4]

/-- The normalised rows' block at an element. -/
theorem norm_at (x0 : Vec Ideal S128x512 .f32) (x4 x5 : Vec Ideal S1x512 .f32) (r : Fin 128) (d : Fin 512) :
    k0_pay3 x0 x4 x5 (ix2 r d) = x4 (ix2 0 d) * ((x0 (ix2 r d) - Ideal.div (∑ e, x0 (ix2 r e)) (Ideal.ofBits .f32 1140850688#32))
      * Ideal.div 1 (Ideal.sqrt (Ideal.div (∑ e, (x0 (ix2 r e) - Ideal.div (∑ e, x0 (ix2 r e)) (Ideal.ofBits .f32 1140850688#32))
          * (x0 (ix2 r e) - Ideal.div (∑ e, x0 (ix2 r e)) (Ideal.ofBits .f32 1140850688#32))) (Ideal.ofBits .f32 1140850688#32))
        + Ideal.ofBits .f32 897988541#32)) + x5 (ix2 0 d) := by
  pointwise [k0_pay3, k0_pay2]

/-- The rounded weights are the weights. -/
theorem weights_at (x1 : Vec Ideal S4096x512 .f32) (r : Fin 4096) (d : Fin 512) : k1_pay1 x1 (ix2 r d) = x1 (ix2 r d) := by
  pointwise [k1_pay1]

/-- The accumulator's step at a position. -/
theorem acc1_at (i : grid1.Coords) (w : Vec Ideal S4096x512 .f32) (x : Vec Ideal S1024x512 .bf16) (b : Vec Ideal S4096x1 .f32) (z : Vec Ideal S1x1024 .f32)
    (r : Fin 1024) :
    acc1 i w x b z (ix2 0 r) = (if first1 i then 0 else z (ix2 0 r)) + ∑ v : Fin 4096,
      Scalar.select (IntOp.cmpi .slt (BitVec.ofNat 32 v.val) (Scalar.subi 50000#32 (Scalar.muli (BitVec.ofNat 32 (i 0).val) 4096#32)))
        (Ideal.exp (∑ k, w (ix2 v k) * x (ix2 r k) + b (ix2 v 0))) 0 := by
  unfold acc1
  by_cases h : first1 i
  · rw [if_pos h, if_pos h]
    pointwise [k1_pay3, k1_pay1, k1_pay2]
  · rw [if_neg h, if_neg h]
    pointwise [k1_pay3, k1_pay1]

/-- The mixture's block at an element. -/
theorem out27_at (i : grid2.Coords) (x0 : Vec Ideal S2048x512 .bf16) (x1 : Vec Ideal S1024x512 .bf16) (x2 : Vec Ideal S2048x1 .f32) (x3 x4 : Vec Ideal S1x1024 .f32)
    (x5 : Vec Ideal S3200x128 .bf16) (x6 : Vec Ideal S8x400 .i32) (b : Fin 8) (r : Fin 2048) (t : Fin 128) (p : Fin 1024) (hp : p.val = 128 * b.val + t.val) :
    out27 i x0 x1 x2 x3 x4 x5 x6 (ix3 b r t) = Ideal.log (x4 (ix2 0 p) * Ideal.div 1 (x3 (ix2 0 p))
          * Ideal.exp (∑ k, x0 (ix2 r k) * x1 (ix2 p k) + x2 (ix2 r 0))
        + (1 - x4 (ix2 0 p)) * ∑ s : Fin 400,
          Scalar.select (IntOp.cmpi .eq (BitVec.ofNat 32 r.val) (IntOp.subi (x6 (ix2 b s)) (Scalar.muli (BitVec.ofNat 32 (i 0).val) 2048#32)))
            (x5 (ix2 (⟨400 * b.val + s.val, by omega⟩ : Fin 3200) t)) 0
        + Ideal.ofBits .f32 730643660#32) := by
  have hp' : 128 * b.val + t.val < 1024 := by omega
  rw [show p = ⟨128 * b.val + t.val, hp'⟩ from Fin.ext hp]
  pointwise [out27, slice2, copied2, k2_pay16, k2_pay6, k2_pay5, k2_pay4, k2_pay3]

end Cert.KernelIdeal.Own

end
-- ==== Proof.Values0.lean ====
/-
  WHAT THE FIRST REGION LEAVES: the gate and the normalised rows, element by element.
-/
module

public import proofs.«01_k».proof.Proof.Blocks
public import proofs.«01_k».proof.Proof.PayAt

@[expose] public section

set_option maxRecDepth 16384

noncomputable section

namespace Cert.KernelIdeal.Own

open Cert.KernelIdeal Cert.KernelIdeal.Gen Cert.Rel
open Idealize.ShloMosaic Idealize.ShloMosaic.TcCoe

variable {F : FTy → Type} [FloatOps F]

/-- What the first region's results hold after each point: the gate's block and the block of normalised rows. -/
def r0 (W : Valuation τ sig (Elt F)) (w : Fin cfg0.W) (t : Fin cfg0.N) : ((cfg0.win w).block.Idx → Elt F (cfg0.win w).elt) → Prop :=
  match w with
  | 10 => fun X => X = out10 (in0 W 0 t) (in0 W 1 t) (in0 W 2 t) (in0 W 3 t) (in0 W 6 t) (in0 W 7 t) (in0 W 8 t) (in0 W 9 t)
  | 11 => fun X => X = k0_pay3 (in0 W 0 t) (in0 W 4 t) (in0 W 5 t)
  | _ => fun _ => True

theorem meets0 (W : Valuation τ sig (Elt F)) : Rel0 W (r0 W) := ⟨fun _ => rfl, fun _ => rfl⟩

theorem idx0_10 : ∀ t : Fin cfg0.N, win0_10.index t = ![t.val, 0] := (by decide +kernel : ∀ t : Fin grid0.N, _)

theorem idx0_11 : ∀ t : Fin cfg0.N, win0_11.index t = ![t.val, 0] := (by decide +kernel : ∀ t : Fin grid0.N, _)

/-- The gate of row `p`, whose sequence is `b`: the logistic function of the three projections and the biases. -/
def gateK (x xt : FVec Ideal S1024x512 .f32) (at_ : FVec Ideal S1024x400 .f32) (mem : FVec Ideal S3200x512 .f32) (wh ws wx : FVec Ideal S1x512 .f32)
    (bb : FVec Ideal S1x1 .f32) (b : Fin 8) (p : Fin 1024) : EReal :=
  Ideal.div 1 (1 + Ideal.exp (0 - (∑ d : Fin 512, ((∑ s : Fin 400, at_ (ix2 p s)
        * mem (ix2 (⟨400 * b.val + s.val, by omega⟩ : Fin 3200) d)) * wh (ix2 (0 : Fin 1) d)
      + x (ix2 p d) * ws (ix2 (0 : Fin 1) d) + xt (ix2 p d) * wx (ix2 (0 : Fin 1) d)) + bb (ix2 (0 : Fin 1) (0 : Fin 1)))))

/-- Row `p` normalised, at feature `d`. -/
def normK (x : FVec Ideal S1024x512 .f32) (a b : FVec Ideal S1x512 .f32) (p : Fin 1024) (d : Fin 512) : EReal :=
  a (ix2 (0 : Fin 1) d) * ((x (ix2 p d) - Ideal.div (∑ e, x (ix2 p e)) (Ideal.ofBits .f32 1140850688#32))
      * Ideal.div 1 (Ideal.sqrt (Ideal.div (∑ e, (x (ix2 p e) - Ideal.div (∑ e, x (ix2 p e)) (Ideal.ofBits .f32 1140850688#32))
          * (x (ix2 p e) - Ideal.div (∑ e, x (ix2 p e)) (Ideal.ofBits .f32 1140850688#32))) (Ideal.ofBits .f32 1140850688#32))
        + Ideal.ofBits .f32 897988541#32)) + b (ix2 (0 : Fin 1) d)

variable {Rl : Results Ideal} {c : Dev nD} {W A : Valuation τ sig (Elt Ideal)}

/-- The gate, for position `t` of sequence `b`. -/
theorem gate_read (hr : Rl W 0 = r0 W) (h : After Rl 0 c W A) (b : Fin 8) (t : Fin 128) (p : Fin 1024) (hp : p.val = 128 * b.val + t.val) :
    A main_v14_0 (ix2 p (0 : Fin 1)) = gateK (W main_v0) (W main_v1) (W main_v2) (W main_v6) (W main_arg9) (W main_arg11) (W main_arg13) (W main_v13) b p := by
  obtain ⟨s, y, X, hX, -, he, hv⟩ := h.read 10 rfl (by decide +kernel) (Memref.isWhole_whole _) (ix2 p (0 : Fin 1))
  have e0 := congrArg Fin.val (congrFun he 0)
  blk_simp at e0
  rw [show ((cfgs 0).win 10).index s 0 = s.val from congrFun (idx0_10 s) 0] at e0
  have hy : (y 0).val < 128 := (((cfgs 0).win 10).xinj ((cfgs 0).grid.coords s) y 0).isLt
  have hs : s.val = b.val := by omega
  have hj : ((cfgs 0).win 10).xinj ((cfgs 0).grid.coords s) y = ix2 t (0 : Fin 1) := by
    funext a
    fin_cases a
    · exact Fin.ext (show (y 0).val = t.val by omega)
    · exact Subsingleton.elim (α := Fin 1) _ _
  rw [hr] at hX
  have hX' : X = out10 (in0 W 0 s) (in0 W 1 s) (in0 W 2 s) (in0 W 3 s) (in0 W 6 s) (in0 W 7 s) (in0 W 8 s) (in0 W 9 s) := hX
  refine hv.trans ?_
  show X (((cfgs 0).win 10).xinj ((cfgs 0).grid.coords s) y) = _
  rw [hj, hX', out10_at]
  have hlt : 128 * b.val + t.val < 1024 := by omega
  have hs8 : s.val < 8 := s.isLt
  rw [show p = ⟨128 * b.val + t.val, hlt⟩ from Fin.ext hp]
  have h3 (x : Fin 400) (d : Fin 512) : stageOf cfg0 W 3 s (anyOf cfg0 3) (ix2 x d) = W main_v6 (ix2 (⟨400 * s.val + x.val, by omega⟩ : Fin 3200) d) :=
    blk0_3 W s _ x d _
  unfold gateK
  simp only [in0, blk0_0 W s _ t _ (show 128 * s.val + t.val < 1024 by omega), blk0_1 W s _ t _ (show 128 * s.val + t.val < 1024 by omega),
    blk0_2 W s _ t _ (show 128 * s.val + t.val < 1024 by omega), h3, blk0_6, blk0_7, blk0_8, blk0_9, hs]

/-- The normalised rows. -/
theorem norm_read (hr : Rl W 0 = r0 W) (h : After Rl 0 c W A) (p : Fin 1024) (d : Fin 512) :
    A main_v14_1 (ix2 p d) = normK (W main_v0) (W main_v7) (W main_v8) p d := by
  obtain ⟨s, y, X, hX, -, he, hv⟩ := h.read 11 rfl (by decide +kernel) (Memref.isWhole_whole _) (ix2 p d)
  have e0 := congrArg Fin.val (congrFun he 0)
  have e1 := congrArg Fin.val (congrFun he 1)
  blk_simp at e0 e1
  rw [show ((cfgs 0).win 11).index s 0 = s.val from congrFun (idx0_11 s) 0] at e0
  rw [show ((cfgs 0).win 11).index s 1 = 0 from congrFun (idx0_11 s) 1] at e1
  have hy : (y 0).val < 128 := (((cfgs 0).win 11).xinj ((cfgs 0).grid.coords s) y 0).isLt
  have hs : s.val < 8 := s.isLt
  have hj : ((cfgs 0).win 11).xinj ((cfgs 0).grid.coords s) y = ix2 (⟨(y 0).val, hy⟩ : Fin 128) d := by
    funext a
    fin_cases a
    · rfl
    · exact Fin.ext (show (y 1).val = d.val by omega)
  rw [hr] at hX
  have hX' : X = k0_pay3 (in0 W 0 s) (in0 W 4 s) (in0 W 5 s) := hX
  refine hv.trans ?_
  show X (((cfgs 0).win 11).xinj ((cfgs 0).grid.coords s) y) = _
  rw [hj, hX', norm_at]
  have hlt : 128 * s.val + (y 0).val < 1024 := by omega
  rw [show p = ⟨128 * s.val + (y 0).val, hlt⟩ from Fin.ext (show p.val = 128 * s.val + (y 0).val by omega)]
  simp only [in0, blk0_0 W s _ ⟨(y 0).val, hy⟩ _ (show 128 * s.val + (y 0).val < 1024 by omega), blk0_4, blk0_5]
  rfl

end Cert.KernelIdeal.Own

end
-- ==== Proof.Values1.lean ====
/-
  WHAT THE SECOND REGION LEAVES: the weights' copy inside the vocabulary, and the sum of the exponentials of every row's logits.
-/
module

public import proofs.«01_k».proof.Proof.Blocks
public import proofs.«01_k».proof.Proof.PayAt
public import Idealize.ShloMosaic.Lib.Tactic.WordOmega

@[expose] public section

set_option maxRecDepth 16384

noncomputable section

namespace Cert.KernelIdeal.Own

open Cert.KernelIdeal Cert.KernelIdeal.Gen Cert.Rel
open Idealize.ShloMosaic Idealize.ShloMosaic.TcCoe

/-- The weight of vocabulary entry `v` for row `r`: the exponential of its logit. -/
def termK (w : FVec Ideal S50000x512 .f32) (x : FVec Ideal S1024x512 .bf16) (b : FVec Ideal S50000x1 .f32) (v : Fin 50000) (r : Fin 1024) : EReal :=
  Ideal.exp (∑ k, w (ix2 v k) * x (ix2 r k) + b (ix2 v (0 : Fin 1)))

/-- `f` at position `n`, zero past the end of the vocabulary. -/
def past (f : Fin 50000 → EReal) (n : Nat) : EReal := if h : n < 50000 then f ⟨n, h⟩ else 0

/-- The weights of block `u` of the vocabulary, those past the end counting nothing. -/
def blockSum (f : Fin 50000 → EReal) (u : Nat) : EReal :=
  ∑ y : Fin 4096, past f (4096 * u + y.val)

/-- The blocks together are the whole vocabulary. -/
theorem sum_blocks (f : Fin 50000 → EReal) : ∑ u ∈ Finset.range 13, blockSum f u = ∑ v, f v := by
  have h1 : ∑ u ∈ Finset.range 13, blockSum f u = ∑ n : Fin 53248, past f n.val := by
    rw [Finset.sum_range]
    rw [Fin.sum_univ_tiles 13 4096 rfl fun n : Fin 53248 => past f n.val]
    unfold blockSum
    simp only [Nat.mul_comm 4096]
  rw [h1, Fin.sum_univ_eq_sum_range (past f) 53248,
    ← Finset.sum_subset (Finset.range_subset_range.mpr (show 50000 ≤ 53248 by norm_num))
      (fun n _ hn => dif_neg fun h => hn (Finset.mem_range.mpr h)), Finset.sum_range]
  exact Finset.sum_congr rfl fun v _ => dif_pos v.isLt

/-- The kernel's mask keeps what lies before the end of the vocabulary. -/
theorem mask_iff (u : Nat) (hu : u < 13) (y : Nat) (hy : y < 4096) :
    IntOp.cmpi .slt (BitVec.ofNat 32 y) (Scalar.subi 50000#32 (Scalar.muli (BitVec.ofNat 32 u) 4096#32)) = 1 ↔ 4096 * u + y < 50000 := by
  show IntOp.cmpi .slt (BitVec.ofNat 32 y) (50000#32 - BitVec.ofNat 32 u * 4096#32) = 1#1 ↔ _
  word_omega

theorem coord1 : ∀ t : Fin cfg1.N, (grid1.coords t 0).val = t.val := (by decide +kernel : ∀ t : Fin grid1.N, _)

/-- The accumulator's step at a point: the weights of the point's block are added. -/
theorem acc1_block (W : Valuation τ sig (Elt Ideal)) (t : Fin cfg1.N) (d d' d'') (y) (r : Fin 1024) :
    acc1 (grid1.coords t) (stageOf cfg1 W 1 t d) (stageOf cfg1 W 0 t d'') (stageOf cfg1 W 2 t d') y (ix2 (0 : Fin 1) r)
      = (if t.val = 0 then 0 else y (ix2 (0 : Fin 1) r)) + blockSum (fun v => termK (W main_arg7) (W main_v14_1) (W main_v9) v r) t.val := by
  have ht : t.val < 13 := t.isLt
  rw [acc1_at]
  simp only [first1_iff, coord1]
  unfold blockSum
  refine congrArg₂ (· + ·) rfl (Finset.sum_congr rfl fun v _ => ?_)
  have hv := v.isLt
  unfold Scalar.select past
  by_cases h : 4096 * t.val + v.val < 50000
  · rw [if_pos ((mask_iff _ ht _ hv).mpr h), dif_pos h]
    unfold termK
    simp only [blk1_1 W t d v _ h, blk1_2 W t d' v _ h, blk1_0]
  · rw [if_neg (fun e => h ((mask_iff _ ht _ hv).mp e)), dif_neg h]

/-- What the second region's results hold: the weights' block as it was fetched, and the sum of the weights up to the point's block. -/
def r1 (W : Valuation τ sig (Elt Ideal)) (w : Fin cfg1.W) (t : Fin cfg1.N) : ((cfg1.win w).block.Idx → Elt Ideal (cfg1.win w).elt) → Prop :=
  match w with
  | 3 => fun X => ∃ d, X = k1_pay1 (stageOf cfg1 W 1 t d)
  | 4 => fun X => ∀ r : Fin 1024, X (ix2 (0 : Fin 1) r)
      = ∑ u ∈ Finset.range (t.val + 1), blockSum (fun v => termK (W main_arg7) (W main_v14_1) (W main_v9) v r) u
  | _ => fun _ => True

theorem meets1 (W : Valuation τ sig (Elt Ideal)) : Rel1 W (r1 W) where
  w3 t d := ⟨d, rfl⟩
  first t d d' y h r := by
    have h0 := (first1_iff t).mp h
    rw [acc1_block, if_pos h0, h0, Finset.sum_range_one, zero_add]
  step t d d' y h hy r := by
    obtain ⟨n, hn⟩ := Nat.exists_eq_succ_of_ne_zero h
    have hy' : y (ix2 (0 : Fin 1) r) = ∑ u ∈ Finset.range (t.val - 1 + 1), blockSum (fun v => termK (W main_arg7) (W main_v14_1) (W main_v9) v r) u := hy r
    rw [acc1_block, if_neg h, hy', show t.val - 1 + 1 = t.val by omega, Finset.sum_range_succ]

theorem idx1_3 : ∀ t : Fin cfg1.N, win1_3.index t = ![t.val, 0] := (by decide +kernel : ∀ t : Fin grid1.N, _)

theorem idx1_4 : ∀ t : Fin cfg1.N, win1_4.index t = ![0, 0] := (by decide +kernel : ∀ t : Fin grid1.N, _)

theorem flush1_4 : ∀ t : Fin cfg1.N, win1_4.flush t = true → t.val = 12 := (by decide +kernel : ∀ t : Fin grid1.N, _)

variable {Rl : Results Ideal} {c : Dev nD} {W A : Valuation τ sig (Elt Ideal)}

/-- The copied weights, inside the vocabulary. -/
theorem weights_read (hr : Rl W 1 = r1 W) (h : After Rl 1 c W A) (v : Fin 53248) (hv : v.val < 50000) (k : Fin 512) :
    A main_v16_0 (ix2 v k) = (W main_arg7 : FVec Ideal S50000x512 .f32) (ix2 (⟨v.val, hv⟩ : Fin 50000) k) := by
  obtain ⟨s, y, X, hX, -, he, hv'⟩ := h.read 3 rfl (by decide +kernel) (Memref.isWhole_whole _) (ix2 v k)
  have e0 := congrArg Fin.val (congrFun he 0)
  have e1 := congrArg Fin.val (congrFun he 1)
  blk_simp at e0 e1
  rw [show ((cfgs 1).win 3).index s 0 = s.val from congrFun (idx1_3 s) 0] at e0
  rw [show ((cfgs 1).win 3).index s 1 = 0 from congrFun (idx1_3 s) 1] at e1
  have hy : (y 0).val < 4096 := (((cfgs 1).win 3).xinj ((cfgs 1).grid.coords s) y 0).isLt
  have hj : ((cfgs 1).win 3).xinj ((cfgs 1).grid.coords s) y = ix2 (⟨(y 0).val, hy⟩ : Fin 4096) k := by
    funext a
    fin_cases a
    · rfl
    · exact Fin.ext (show (y 1).val = k.val by omega)
  rw [hr] at hX
  obtain ⟨d, hX'⟩ : ∃ d, X = k1_pay1 (stageOf cfg1 W 1 s d) := hX
  refine hv'.trans ?_
  show X (((cfgs 1).win 3).xinj ((cfgs 1).grid.coords s) y) = _
  have hlt : 4096 * s.val + (y 0).val < 50000 := by omega
  rw [hj, hX', weights_at, blk1_1 W s d ⟨(y 0).val, hy⟩ k hlt]
  congr 2
  exact Fin.ext (show 4096 * s.val + (y 0).val = v.val by omega)

/-- The sum of the weights of a row, over the whole vocabulary. -/
theorem total_read (hr : Rl W 1 = r1 W) (h : After Rl 1 c W A) (r : Fin 1024) :
    A main_v16_1 (ix2 (0 : Fin 1) r) = ∑ v, termK (W main_arg7) (W main_v14_1) (W main_v9) v r := by
  obtain ⟨s, y, X, hX, hf, he, hv'⟩ := h.read 4 rfl (by decide +kernel) (Memref.isWhole_whole _) (ix2 (0 : Fin 1) r)
  have e1 := congrArg Fin.val (congrFun he 1)
  blk_simp at e1
  rw [show ((cfgs 1).win 4).index s 1 = 0 from congrFun (idx1_4 s) 1] at e1
  have hs : s.val = 12 := flush1_4 s hf
  have hj : ((cfgs 1).win 4).xinj ((cfgs 1).grid.coords s) y = ix2 (0 : Fin 1) r := by
    funext a
    fin_cases a
    · exact Subsingleton.elim (α := Fin 1) _ _
    · exact Fin.ext (show (y 1).val = r.val by omega)
  rw [hr] at hX
  have hX' : ∀ r : Fin 1024, X (ix2 (0 : Fin 1) r)
      = ∑ u ∈ Finset.range (s.val + 1), blockSum (fun v => termK (W main_arg7) (W main_v14_1) (W main_v9) v r) u := hX
  refine hv'.trans ?_
  show X (((cfgs 1).win 4).xinj ((cfgs 1).grid.coords s) y) = _
  rw [hj, hX', hs, sum_blocks]

end Cert.KernelIdeal.Own

end
-- ==== Proof.Values2.lean ====
/-
  WHAT THE THIRD REGION LEAVES: the logarithm of the mixture, element by element.
-/
module

public import proofs.«01_k».proof.Proof.Blocks
public import proofs.«01_k».proof.Proof.PayAt
public import Idealize.ShloMosaic.Lib.Tactic.WordOmega

@[expose] public section

set_option maxRecDepth 16384

noncomputable section

namespace Cert.KernelIdeal.Own

open Cert.KernelIdeal Cert.KernelIdeal.Gen Cert.Rel
open Idealize.ShloMosaic Idealize.ShloMosaic.TcCoe

/-- The kernel's comparison of a position with a source entry, both taken relative to the block's first position, compares the entry with
    the position itself. -/
theorem hit_iff (u : Nat) (hu : u < 25) (y : Nat) (hy : y < 2048) (s : BitVec 32) :
    IntOp.cmpi .eq (BitVec.ofNat 32 y) (IntOp.subi s (Scalar.muli (BitVec.ofNat 32 u) 2048#32)) = 1 ↔ s.toInt = ((2048 * u + y : Nat) : Int) := by
  show IntOp.cmpi .eq (BitVec.ofNat 32 y) (s - BitVec.ofNat 32 u * 2048#32) = 1#1 ↔ _
  word_omega

theorem coord2 : ∀ t : Fin cfg2.N, (grid2.coords t 0).val = t.val := (by decide +kernel : ∀ t : Fin grid2.N, _)

/-- The logit of vocabulary entry `v` for row `p`. -/
def scoreK (w : FVec Ideal S53248x512 .bf16) (x : FVec Ideal S1024x512 .bf16) (bias : FVec Ideal S50000x1 .f32) (v : Fin 50000) (p : Fin 1024) : EReal :=
  ∑ k, w (ix2 (⟨v.val, by omega⟩ : Fin 53248) k) * x (ix2 p k) + bias (ix2 v (0 : Fin 1))

/-- The mixture's logarithm at vocabulary entry `v` and row `p`, position `t` of sequence `b`. -/
def mixK (w : FVec Ideal S53248x512 .bf16) (x : FVec Ideal S1024x512 .bf16) (bias : FVec Ideal S50000x1 .f32) (z g : FVec Ideal S1x1024 .f32)
    (at_ : FVec Ideal S3200x128 .bf16) (src : S8x400.Idx → BitVec 32) (b : Fin 8) (v : Fin 50000) (t : Fin 128) (p : Fin 1024) : EReal :=
  Ideal.log (g (ix2 (0 : Fin 1) p) * Ideal.div 1 (z (ix2 (0 : Fin 1) p))
        * Ideal.exp (scoreK w x bias v p)
      + (1 - g (ix2 (0 : Fin 1) p)) * ∑ s : Fin 400, (if (src (ix2 b s)).toInt = ((v.val : Nat) : Int) then at_ (ix2 (⟨400 * b.val + s.val, by omega⟩ : Fin 3200) t) else 0)
      + Ideal.ofBits .f32 730643660#32)

/-- What the third region's result holds after each point. -/
def r2 (W : Valuation τ sig (Elt Ideal)) (w : Fin cfg2.W) (t : Fin cfg2.N) : ((cfg2.win w).block.Idx → Elt Ideal (cfg2.win w).elt) → Prop :=
  match w with
  | 7 => fun X => ∃ d, X = out27 (grid2.coords t) (in2 W 0 t) (in2 W 1 t) (stageOf cfg2 W 2 t d) (in2 W 3 t) (in2 W 4 t) (in2 W 5 t) (in2 W 6 t)
  | _ => fun _ => True

theorem meets2 (W : Valuation τ sig (Elt Ideal)) : Rel2 W (r2 W) := ⟨fun _ d => ⟨d, rfl⟩⟩

theorem idx2_7 : ∀ t : Fin cfg2.N, win2_7.index t = ![0, t.val, 0] := (by decide +kernel : ∀ t : Fin grid2.N, _)

variable {Rl : Results Ideal} {c : Dev nD} {W A : Valuation τ sig (Elt Ideal)}

/-- The mixture, for entry `v` and position `t` of sequence `b`. -/
theorem mix_read (hr : Rl W 2 = r2 W) (h : After Rl 2 c W A) (b : Fin 8) (v : Fin 50000) (t : Fin 128) (p : Fin 1024) (hp : p.val = 128 * b.val + t.val) :
    A main_v17 (ix3 b v t) = mixK (W main_v16_0) (W main_v14_1) (W main_v9) (W main_v16_1) (W main_v15) (W main_v5) (W main_arg4) b v t p := by
  obtain ⟨s, y, X, hX, -, he, hv'⟩ := h.read 7 rfl (by decide +kernel) (Memref.isWhole_whole _) (ix3 b v t)
  have e0 := congrArg Fin.val (congrFun he 0)
  have e1 := congrArg Fin.val (congrFun he 1)
  have e2 := congrArg Fin.val (congrFun he 2)
  blk_simp at e0 e1 e2
  rw [show ((cfgs 2).win 7).index s 0 = 0 from congrFun (idx2_7 s) 0] at e0
  rw [show ((cfgs 2).win 7).index s 1 = s.val from congrFun (idx2_7 s) 1] at e1
  rw [show ((cfgs 2).win 7).index s 2 = 0 from congrFun (idx2_7 s) 2] at e2
  have hy : (y 1).val < 2048 := (((cfgs 2).win 7).xinj ((cfgs 2).grid.coords s) y 1).isLt
  have hs : s.val < 25 := s.isLt
  have hj : ((cfgs 2).win 7).xinj ((cfgs 2).grid.coords s) y = ix3 b (⟨(y 1).val, hy⟩ : Fin 2048) t := by
    funext a
    fin_cases a
    · exact Fin.ext (show (y 0).val = b.val by omega)
    · rfl
    · exact Fin.ext (show (y 2).val = t.val by omega)
  rw [hr] at hX
  obtain ⟨d, hX'⟩ : ∃ d, X = out27 (grid2.coords s) (in2 W 0 s) (in2 W 1 s) (stageOf cfg2 W 2 s d) (in2 W 3 s) (in2 W 4 s) (in2 W 5 s) (in2 W 6 s) := hX
  refine hv'.trans ?_
  show X (((cfgs 2).win 7).xinj ((cfgs 2).grid.coords s) y) = _
  have hlt : 2048 * s.val + (y 1).val < 50000 := by omega
  rw [hj, hX', out27_at _ _ _ _ _ _ _ _ _ _ _ p hp, show v = ⟨2048 * s.val + (y 1).val, hlt⟩ from Fin.ext (show v.val = 2048 * s.val + (y 1).val by omega)]
  unfold mixK scoreK Scalar.select
  simp only [coord2, hit_iff s.val hs (y 1).val hy, in2, blk2_0 W s _ ⟨(y 1).val, hy⟩ _ (show 2048 * s.val + (y 1).val < 53248 by omega),
    blk2_2 W s d ⟨(y 1).val, hy⟩ _ hlt, blk2_1, blk2_3, blk2_4, blk2_5, blk2_6]

end Cert.KernelIdeal.Own

end
-- ==== Proof.Host.lean ====
/-
  WHAT THE HOST OPERATIONS AROUND THE REGIONS HOLD, element by element.
-/
module

public import proofs.«01_k».proof.Proof.Run
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen Cert.Rel
open Idealize.ShloMosaic Idealize.ShloMosaic.TcCoe

variable (V : Valuation τ sig (Elt Ideal))

/-- The decoder states, row by row. -/
theorem host_x (b : Fin 8) (t : Fin 128) (p : Fin 1024) (hp : p.val = 128 * b.val + t.val) (d : Fin 512) :
    StableHlo.after hostOps0 V main_v0 (ix2 p d) = (V main_arg0 : FVec Ideal S8x128x512 .f32) (ix3 b t d) := by
  have hlt : 128 * b.val + t.val < 1024 := by omega
  have e : (StableHlo.after hostOps0 V main_v0 : FVec Ideal S1024x512 .f32) = shapeCast S1024x512 (V main_arg0 : FVec Ideal S8x128x512 .f32) shapeCasts_S8x128x512_S1024x512 := by
    after_results; rfl
  rw [show p = ⟨128 * b.val + t.val, hlt⟩ from Fin.ext hp]
  refine (congrFun e _).trans ?_
  pointwise

/-- The embedded inputs, row by row. -/
theorem host_xt (b : Fin 8) (t : Fin 128) (p : Fin 1024) (hp : p.val = 128 * b.val + t.val) (d : Fin 512) :
    StableHlo.after hostOps0 V main_v1 (ix2 p d) = (V main_arg1 : FVec Ideal S8x128x512 .f32) (ix3 b t d) := by
  have hlt : 128 * b.val + t.val < 1024 := by omega
  have e : (StableHlo.after hostOps0 V main_v1 : FVec Ideal S1024x512 .f32) = shapeCast S1024x512 (V main_arg1 : FVec Ideal S8x128x512 .f32) shapeCasts_S8x128x512_S1024x512 := by
    after_results; rfl
  rw [show p = ⟨128 * b.val + t.val, hlt⟩ from Fin.ext hp]
  refine (congrFun e _).trans ?_
  pointwise

/-- The attention weights, row by row. -/
theorem host_attn (b : Fin 8) (t : Fin 128) (p : Fin 1024) (hp : p.val = 128 * b.val + t.val) (d : Fin 400) :
    StableHlo.after hostOps0 V main_v2 (ix2 p d) = (V main_arg3 : FVec Ideal S8x128x400 .f32) (ix3 b t d) := by
  have hlt : 128 * b.val + t.val < 1024 := by omega
  have e : (StableHlo.after hostOps0 V main_v2 : FVec Ideal S1024x400 .f32) = shapeCast S1024x400 (V main_arg3 : FVec Ideal S8x128x400 .f32) shapeCasts_S8x128x400_S1024x400 := by
    after_results; rfl
  rw [show p = ⟨128 * b.val + t.val, hlt⟩ from Fin.ext hp]
  refine (congrFun e _).trans ?_
  pointwise

/-- The memory, row by row. -/
theorem host_mem (b : Fin 8) (s : Fin 400) (d : Fin 512) (h : 400 * b.val + s.val < 3200) :
    StableHlo.after hostOps0 V main_v6 (ix2 (⟨400 * b.val + s.val, h⟩ : Fin 3200) d) = (V main_arg2 : FVec Ideal S8x400x512 .f32) (ix3 b s d) := by
  have e : (StableHlo.after hostOps0 V main_v6 : FVec Ideal S3200x512 .f32) = shapeCast S3200x512 (V main_arg2 : FVec Ideal S8x400x512 .f32) shapeCasts_S8x400x512_S3200x512 := by
    after_results; rfl
  refine (congrFun e _).trans ?_
  pointwise

/-- The scale. -/
theorem host_a (d : Fin 512) :
    StableHlo.after hostOps0 V main_v7 (ix2 (0 : Fin 1) d) = (V main_arg5 : FVec Ideal S512 .f32) (ix1 d) := by
  have e : (StableHlo.after hostOps0 V main_v7 : FVec Ideal S1x512 .f32) = shapeCast S1x512 (V main_arg5 : FVec Ideal S512 .f32) shapeCasts_S512_S1x512 := by
    after_results; rfl
  refine (congrFun e _).trans ?_
  pointwise

/-- The shift. -/
theorem host_b (d : Fin 512) :
    StableHlo.after hostOps0 V main_v8 (ix2 (0 : Fin 1) d) = (V main_arg6 : FVec Ideal S512 .f32) (ix1 d) := by
  have e : (StableHlo.after hostOps0 V main_v8 : FVec Ideal S1x512 .f32) = shapeCast S1x512 (V main_arg6 : FVec Ideal S512 .f32) shapeCasts_S512_S1x512 := by
    after_results; rfl
  refine (congrFun e _).trans ?_
  pointwise

/-- The bias of the vocabulary. -/
theorem host_bias (v : Fin 50000) :
    StableHlo.after hostOps0 V main_v9 (ix2 v (0 : Fin 1)) = (V main_arg8 : FVec Ideal S50000 .f32) (ix1 v) := by
  have e : (StableHlo.after hostOps0 V main_v9 : FVec Ideal S50000x1 .f32) = shapeCast S50000x1 (V main_arg8 : FVec Ideal S50000 .f32) shapeCasts_S50000_S50000x1 := by
    after_results; rfl
  refine (congrFun e _).trans ?_
  pointwise

/-- The attention weights transposed, row by row. -/
theorem host_attnT (b : Fin 8) (t : Fin 128) (s : Fin 400) (h : 400 * b.val + s.val < 3200) :
    StableHlo.after hostOps0 V main_v5 (ix2 (⟨400 * b.val + s.val, h⟩ : Fin 3200) t) = (V main_arg3 : FVec Ideal S8x128x400 .f32) (ix3 b t s) := by
  have e : @Eq (FVec Ideal S3200x128 .bf16) (StableHlo.after hostOps0 V main_v5) <| truncf .bf16 (shapeCast S3200x128
      (transpose S8x400x128 [0, 2, 1] (V main_arg3 : FVec Ideal S8x128x400 .f32) transposes_S8x128x400_S8x400x128_0_2_1) shapeCasts_S8x400x128_S3200x128) bitsLt_bf16_f32 := by
    after_results; rfl
  refine (congrFun e _).trans ?_
  pointwise

/-- The sum of the gate's biases. -/
def biasK (a b c : FVec Ideal S1 .f32) (d : FVec Ideal S1x1 .f32) : EReal := a (ix1 (0 : Fin 1)) + b (ix1 (0 : Fin 1)) + c (ix1 (0 : Fin 1)) + d (ix2 (0 : Fin 1) (0 : Fin 1))

/-- The gate's biases, summed. -/
theorem host_bb : StableHlo.after hostOps0 V main_v13 (ix2 (0 : Fin 1) (0 : Fin 1))
    = biasK (V main_arg10) (V main_arg12) (V main_arg14) (V main_arg15) := by
  have e : @Eq (FVec Ideal S1x1 .f32) (StableHlo.after hostOps0 V main_v13) <| addf (shapeCast S1x1 (addf (addf (V main_arg10 : FVec Ideal S1 .f32)
      (V main_arg12 : FVec Ideal S1 .f32)) (V main_arg14 : FVec Ideal S1 .f32)) shapeCasts_S1_S1x1) (V main_arg15 : FVec Ideal S1x1 .f32) := by
    after_results; rfl
  refine (congrFun e _).trans ?_
  pointwise [biasK]

/-- The gate as a row. -/
theorem host_gate (p : Fin 1024) : StableHlo.after hostOps1 V main_v15 (ix2 (0 : Fin 1) p) = (V main_v14_0 : FVec Ideal S1024x1 .f32) (ix2 p (0 : Fin 1)) := by
  have e : (StableHlo.after hostOps1 V main_v15 : FVec Ideal S1x1024 .f32) = shapeCast S1x1024 (V main_v14_0 : FVec Ideal S1024x1 .f32) shapeCasts_S1024x1_S1x1024 := by
    after_results; rfl
  refine (congrFun e _).trans ?_
  pointwise

/-- The first result: the mixture with the positions before the vocabulary. -/
theorem host_first (b : Fin 8) (t : Fin 128) (v : Fin 50000) :
    StableHlo.after hostOps3 V main_v18 (ix3 b t v) = (V main_v17 : FVec Ideal S8x50000x128 .f32) (ix3 b v t) := by
  have e : (StableHlo.after hostOps3 V main_v18 : FVec Ideal S8x128x50000 .f32)
      = transpose S8x128x50000 [0, 2, 1] (V main_v17 : FVec Ideal S8x50000x128 .f32) transposes_S8x50000x128_S8x128x50000_0_2_1 := by
    after_results
  refine (congrFun e _).trans ?_
  pointwise

/-- The second result: the gate by sequence and position. -/
theorem host_second (b : Fin 8) (t : Fin 128) (p : Fin 1024) (hp : p.val = 128 * b.val + t.val) :
    StableHlo.after hostOps3 V main_v19 (ix3 b t (0 : Fin 1)) = (V main_v14_0 : FVec Ideal S1024x1 .f32) (ix2 p (0 : Fin 1)) := by
  have hlt : 128 * b.val + t.val < 1024 := by omega
  have e : (StableHlo.after hostOps3 V main_v19 : FVec Ideal S8x128x1 .f32) = shapeCast S8x128x1 (V main_v14_0 : FVec Ideal S1024x1 .f32) shapeCasts_S1024x1_S8x128x1 := by
    after_results; rfl
  rw [show p = ⟨128 * b.val + t.val, hlt⟩ from Fin.ext hp]
  refine (congrFun e _).trans ?_
  pointwise
  exact congrArg (fun q => (V main_v14_0 : FVec Ideal S1024x1 .f32) (ix2 q (0 : Fin 1))) (Fin.ext (show b.val * 128 + t.val = 128 * b.val + t.val by omega))

end Cert.KernelIdeal.Own

end
-- ==== Proof.Chain.lean ====
/-
  THE RESULTS AS FUNCTIONS OF THE ARGUMENTS: the regions and the host operations, one after another.
-/
module

public import proofs.«01_k».proof.Proof.Values0
public import proofs.«01_k».proof.Proof.Values1
public import proofs.«01_k».proof.Proof.Values2
public import proofs.«01_k».proof.Proof.Host

@[expose] public section

set_option maxRecDepth 16384

noncomputable section

namespace Cert.KernelIdeal.Own

open Cert.KernelIdeal Cert.KernelIdeal.Gen Cert.Rel
open Idealize.ShloMosaic Idealize.ShloMosaic.TcCoe

/-! ### The results, as functions of the arguments -/

/-- The gate at position `t` of sequence `i`. -/
def kGate (x xt : FVec Ideal S8x128x512 .f32) (mem : FVec Ideal S8x400x512 .f32) (attn : FVec Ideal S8x128x400 .f32) (wh ws wx : FVec Ideal S1x512 .f32)
    (bias : EReal) (i : Fin 8) (t : Fin 128) : EReal :=
  Ideal.div 1 (1 + Ideal.exp (0 - (∑ d : Fin 512, ((∑ s : Fin 400, attn (ix3 i t s) * mem (ix3 i s d)) * wh (ix2 (0 : Fin 1) d)
      + x (ix3 i t d) * ws (ix2 (0 : Fin 1) d) + xt (ix3 i t d) * wx (ix2 (0 : Fin 1) d)) + bias)))

/-- The mean of a row's features. -/
def kMean (x : FVec Ideal S8x128x512 .f32) (i : Fin 8) (t : Fin 128) : EReal := Ideal.div (∑ e, x (ix3 i t e)) (Ideal.ofBits .f32 1140850688#32)

/-- A row normalised, at feature `d`. -/
def kNorm (x : FVec Ideal S8x128x512 .f32) (a b : FVec Ideal S512 .f32) (i : Fin 8) (t : Fin 128) (d : Fin 512) : EReal :=
  a (ix1 d) * ((x (ix3 i t d) - kMean x i t)
      * Ideal.div 1 (Ideal.sqrt (Ideal.div (∑ e, (x (ix3 i t e) - kMean x i t) * (x (ix3 i t e) - kMean x i t)) (Ideal.ofBits .f32 1140850688#32))
        + Ideal.ofBits .f32 897988541#32)) + b (ix1 d)

/-- The logit of vocabulary entry `v`. -/
def kLogit (x : FVec Ideal S8x128x512 .f32) (a b : FVec Ideal S512 .f32) (w : FVec Ideal S50000x512 .f32) (pb : FVec Ideal S50000 .f32)
    (i : Fin 8) (t : Fin 128) (v : Fin 50000) : EReal :=
  ∑ k, w (ix2 v k) * kNorm x a b i t k + pb (ix1 v)

/-- The attention weight copied to vocabulary entry `v`. -/
def kCopy (attn : FVec Ideal S8x128x400 .f32) (src : S8x400.Idx → BitVec 32) (i : Fin 8) (t : Fin 128) (v : Fin 50000) : EReal :=
  ∑ s : Fin 400, if (src (ix2 i s)).toInt = ((v.val : Nat) : Int) then attn (ix3 i t s) else 0

/-- The mixture's logarithm, from the gate, the logits and the copied weight. -/
def kMix (g : EReal) (l : Fin 50000 → EReal) (s : EReal) (v : Fin 50000) : EReal :=
  Ideal.log (g * Ideal.div 1 (∑ u, Ideal.exp (l u)) * Ideal.exp (l v) + (1 - g) * s + Ideal.ofBits .f32 730643660#32)

/-- What is proved of the three regions. -/
abbrev proved : Results Ideal := resultsOf r0 r1 r2

theorem meets : Meets proved := ⟨meets0, meets1, meets2⟩

variable {c : Dev nD} {V A B C : Valuation τ sig (Elt Ideal)}

/-- A buffer that the one operation before the second region does not write. -/
theorem keep1 (b : Ref sig .tc) (h : b ∉ hostOps1_W) : StableHlo.after hostOps1 A b = A b := StableHlo.after_of_writes_sub hostOps1 _ hostOps1_writes h

theorem keep0 (b : Ref sig .tc) (h : b ∉ hostOps0_W) : StableHlo.after hostOps0 V b = V b := StableHlo.after_of_writes_sub hostOps0 _ hostOps0_writes h

/-- The gate after the first region. -/
theorem gate_after (hA : After proved 0 c (StableHlo.after hostOps0 V) A) (i : Fin 8) (t : Fin 128) (p : Fin 1024) (hp : p.val = 128 * i.val + t.val) :
    A main_v14_0 (ix2 p (0 : Fin 1)) = kGate (V main_arg0) (V main_arg1) (V main_arg2) (V main_arg3) (V main_arg9) (V main_arg11) (V main_arg13)
      (biasK (V main_arg10) (V main_arg12) (V main_arg14) (V main_arg15)) i t := by
  rw [gate_read rfl hA i t p hp]
  unfold gateK kGate
  rw [host_bb]
  simp only [host_x V i t p hp, host_xt V i t p hp, host_attn V i t p hp, host_mem V i, keep0 main_arg9 (by decide), keep0 main_arg11 (by decide),
    keep0 main_arg13 (by decide)]

/-- The normalised rows after the first region. -/
theorem norm_after (hA : After proved 0 c (StableHlo.after hostOps0 V) A) (i : Fin 8) (t : Fin 128) (p : Fin 1024) (hp : p.val = 128 * i.val + t.val) (d : Fin 512) :
    A main_v14_1 (ix2 p d) = kNorm (V main_arg0) (V main_arg5) (V main_arg6) i t d := by
  rw [norm_read rfl hA p d]
  unfold normK kNorm kMean
  rw [host_a, host_b]
  simp only [host_x V i t p hp]

/-- A weight of the vocabulary's distribution. -/
theorem term_after (hA : After proved 0 c (StableHlo.after hostOps0 V) A) (i : Fin 8) (t : Fin 128) (p : Fin 1024) (hp : p.val = 128 * i.val + t.val) (v : Fin 50000) :
    termK (StableHlo.after hostOps1 A main_arg7) (StableHlo.after hostOps1 A main_v14_1) (StableHlo.after hostOps1 A main_v9) v p
      = Ideal.exp (kLogit (V main_arg0) (V main_arg5) (V main_arg6) (V main_arg7) (V main_arg8) i t v) := by
  unfold termK kLogit
  simp only [keep1 main_arg7 (by decide), keep1 main_v14_1 (by decide), keep1 main_v9 (by decide), hA.keep main_arg7 (by decide), hA.keep main_v9 (by decide),
    keep0 main_arg7 (by decide), norm_after hA i t p hp]
  rw [host_bias]

/-- The second result. -/
theorem second_after (hA : After proved 0 c (StableHlo.after hostOps0 V) A) (hB : After proved 1 c (StableHlo.after hostOps1 A) B) (hC : After proved 2 c B C)
    (i : Fin 8) (t : Fin 128) : StableHlo.after hostOps3 C main_v19 (ix3 i t (0 : Fin 1)) = kGate (V main_arg0) (V main_arg1) (V main_arg2) (V main_arg3)
      (V main_arg9) (V main_arg11) (V main_arg13) (biasK (V main_arg10) (V main_arg12) (V main_arg14) (V main_arg15)) i t := by
  have hp : (⟨128 * i.val + t.val, by omega⟩ : Fin 1024).val = 128 * i.val + t.val := rfl
  rw [host_second C i t _ hp, hC.keep main_v14_0 (by decide), hB.keep main_v14_0 (by decide), keep1 main_v14_0 (by decide), gate_after hA i t _ hp]

/-- The first result. -/
theorem first_after (hA : After proved 0 c (StableHlo.after hostOps0 V) A) (hB : After proved 1 c (StableHlo.after hostOps1 A) B) (hC : After proved 2 c B C)
    (i : Fin 8) (t : Fin 128) (v : Fin 50000) : StableHlo.after hostOps3 C main_v18 (ix3 i t v)
      = kMix (kGate (V main_arg0) (V main_arg1) (V main_arg2) (V main_arg3) (V main_arg9) (V main_arg11) (V main_arg13)
          (biasK (V main_arg10) (V main_arg12) (V main_arg14) (V main_arg15)) i t)
        (kLogit (V main_arg0) (V main_arg5) (V main_arg6) (V main_arg7) (V main_arg8) i t)
        (kCopy (V main_arg3) (V main_arg4) i t v) v := by
  have hp : (⟨128 * i.val + t.val, by omega⟩ : Fin 1024).val = 128 * i.val + t.val := rfl
  rw [host_first, mix_read rfl hC i v t _ hp]
  have ez := total_read rfl hB (⟨128 * i.val + t.val, by omega⟩ : Fin 1024)
  simp only [term_after hA i t _ hp] at ez
  have eg : B main_v15 (ix2 (0 : Fin 1) (⟨128 * i.val + t.val, by omega⟩ : Fin 1024)) = kGate (V main_arg0) (V main_arg1) (V main_arg2) (V main_arg3) (V main_arg9)
      (V main_arg11) (V main_arg13) (biasK (V main_arg10) (V main_arg12) (V main_arg14) (V main_arg15)) i t := by
    rw [hB.keep main_v15 (by decide), host_gate, gate_after hA i t _ hp]
  have el : Ideal.exp (scoreK (B main_v16_0) (B main_v14_1) (B main_v9) v (⟨128 * i.val + t.val, by omega⟩ : Fin 1024))
      = Ideal.exp (kLogit (V main_arg0) (V main_arg5) (V main_arg6) (V main_arg7) (V main_arg8) i t v) := by
    rw [← term_after hA i t _ hp v]
    unfold scoreK termK
    simp only [weights_read rfl hB (⟨v.val, by omega⟩ : Fin 53248) v.isLt, hB.keep main_v14_1 (by decide), hB.keep main_v9 (by decide)]
  have ea (s : Fin 400) : B main_v5 (ix2 (⟨400 * i.val + s.val, by omega⟩ : Fin 3200) t) = (V main_arg3 : FVec Ideal S8x128x400 .f32) (ix3 i t s) := by
    rw [hB.keep main_v5 (by decide), keep1 main_v5 (by decide), hA.keep main_v5 (by decide), host_attnT]
  have es : B main_arg4 = V main_arg4 := by
    rw [hB.keep main_arg4 (by decide), keep1 main_arg4 (by decide), hA.keep main_arg4 (by decide), keep0 main_arg4 (by decide)]
  unfold mixK kMix kCopy
  simp only [ez, eg, el, ea, es]

end Cert.KernelIdeal.Own

end
-- ==== Proof.RefParts.lean ====
/-
  THE REFERENCE'S RESULTS, IN PARTS: the gate, the layer norm, the logits, the softmax, the copy distribution and their mixture, each as a
  function of the arguments it depends on. Put together they are the composed terms of the reference's run.
-/
module

public import proofs.«01_k».proof.Proof.Gen.ReferenceIdeal.Run
public import Idealize.ShloMosaic.PureOps.Ideal

@[expose] public section

set_option maxRecDepth 16384

noncomputable section

namespace Cert.ReferenceIdeal.Own

open Cert.ReferenceIdeal Cert.ReferenceIdeal.Gen
open Idealize.ShloMosaic Idealize.ShloMosaic.TcCoe

/-- The probability of generating, one for each position. -/
def gateR (x xt : FVec Ideal S8x128x512 .f32) (mem : FVec Ideal S8x400x512 .f32) (attn : FVec Ideal S8x128x400 .f32)
    (wh : FVec Ideal S1x512 .f32) (whb : FVec Ideal S1 .f32) (ws : FVec Ideal S1x512 .f32) (wsb : FVec Ideal S1 .f32)
    (wx : FVec Ideal S1x512 .f32) (wxb : FVec Ideal S1 .f32) (bp : FVec Ideal S1x1 .f32) : FVec Ideal S8x128x1 .f32 :=
  (Host.divf (broadcastInDim S8x128x1 ![] bcast_S_S8x128x1 (constant S_ .f32 0x3F800000#32)) (addf (broadcastInDim S8x128x1 ![] bcast_S_S8x128x1 (constant S_ .f32 0x3F800000#32)) (Host.exp (Host.negf (addf (addf (addf (addf (addf (addf (Host.dotGeneral dot_S8x128x512_S1x512_S8x128x1_2_1_01_0_n_n none (Host.dotGeneral dot_S8x128x400_S8x400x512_S8x128x512_2_1_1_2_0_0 none attn mem) wh) (broadcastInDim S8x128x1 ![0, 1, 2] bcast_S1x1x1_S8x128x1_0_1_2 (broadcastInDim S1x1x1 ![2] bcast_S1_S1x1x1_2 whb))) (Host.dotGeneral dot_S8x128x512_S1x512_S8x128x1_2_1_01_0_n_n none x ws)) (broadcastInDim S8x128x1 ![0, 1, 2] bcast_S1x1x1_S8x128x1_0_1_2 (broadcastInDim S1x1x1 ![2] bcast_S1_S1x1x1_2 wsb))) (Host.dotGeneral dot_S8x128x512_S1x512_S8x128x1_2_1_01_0_n_n none xt wx)) (broadcastInDim S8x128x1 ![0, 1, 2] bcast_S1x1x1_S8x128x1_0_1_2 (broadcastInDim S1x1x1 ![2] bcast_S1_S1x1x1_2 wxb))) (broadcastInDim S8x128x1 ![] bcast_S_S8x128x1 (shapeCast _ bp shapeCasts_S1x1_S_)))))))

/-- The mean of each row. -/
def meanR (x : FVec Ideal S8x128x512 .f32) : FVec Ideal S8x128x1 .f32 :=
  (Host.divf (broadcastInDim S8x128x1 ![0, 1] bcast_S8x128_S8x128x1_0_1 (Host.reduceAdd x (constant S_ .f32 0x00000000#32) reducesTo_S8x128x512_S8x128_d2 h_S_)) (broadcastInDim S8x128x1 ![] bcast_S_S8x128x1 (constant S_ .f32 0x44000000#32)))

/-- The standard deviation of each row. -/
def sdR (x : FVec Ideal S8x128x512 .f32) : FVec Ideal S8x128x1 .f32 :=
  (Host.sqrt (select (broadcastInDim S8x128x1 ![] bcast_S_S8x128x1 (cmpf .ogt (subf (constant S_ .f32 0x44000000#32) (sitofp .f32 (constantI S_ 32 0#32)) : FVec Ideal S_ .f32) (constant S_ .f32 0x00000000#32))) (Host.divf (broadcastInDim S8x128x1 ![0, 1] bcast_S8x128_S8x128x1_0_1 (Host.reduceAdd (mulf (subf x (broadcastInDim S8x128x512 ![0, 1, 2] bcast_S8x128x1_S8x128x512_0_1_2 (meanR x))) (subf x (broadcastInDim S8x128x512 ![0, 1, 2] bcast_S8x128x1_S8x128x512_0_1_2 (meanR x)))) (constant S_ .f32 0x00000000#32) reducesTo_S8x128x512_S8x128_d2 h_S_)) (broadcastInDim S8x128x1 ![] bcast_S_S8x128x1 (subf (constant S_ .f32 0x44000000#32) (sitofp .f32 (constantI S_ 32 0#32))))) (broadcastInDim S8x128x1 ![] bcast_S_S8x128x1 (id (constant S_ .f32 0x7FC00000#32)))))

/-- The layer norm. -/
def lnR (x : FVec Ideal S8x128x512 .f32) (a b : FVec Ideal S512 .f32) : FVec Ideal S8x128x512 .f32 :=
  (addf (Host.divf (mulf (broadcastInDim S8x128x512 ![0, 1, 2] bcast_S1x1x512_S8x128x512_0_1_2 (broadcastInDim S1x1x512 ![2] bcast_S512_S1x1x512_2 a)) (subf x (broadcastInDim S8x128x512 ![0, 1, 2] bcast_S8x128x1_S8x128x512_0_1_2 (meanR x)))) (broadcastInDim S8x128x512 ![0, 1, 2] bcast_S8x128x1_S8x128x512_0_1_2 (addf (sdR x) (broadcastInDim S8x128x1 ![] bcast_S_S8x128x1 (constant S_ .f32 0x358637BD#32))))) (broadcastInDim S8x128x512 ![0, 1, 2] bcast_S1x1x512_S8x128x512_0_1_2 (broadcastInDim S1x1x512 ![2] bcast_S512_S1x1x512_2 b)))

/-- The logits. -/
def logitR (x : FVec Ideal S8x128x512 .f32) (a b : FVec Ideal S512 .f32) (w : FVec Ideal S50000x512 .f32) (pb : FVec Ideal S50000 .f32) :
    FVec Ideal S8x128x50000 .f32 :=
  (addf (Host.dotGeneral dot_S8x128x512_S50000x512_S8x128x50000_2_1_01_0_n_n none (lnR x a b) w) (broadcastInDim S8x128x50000 ![0, 1, 2] bcast_S1x1x50000_S8x128x50000_0_1_2 (broadcastInDim S1x1x50000 ![2] bcast_S50000_S1x1x50000_2 pb)))

/-- The greatest logit of each position. -/
def maxR (l : FVec Ideal S8x128x50000 .f32) : FVec Ideal S8x128 .f32 :=
  (maximumf (broadcastInDim S8x128 ![] bcast_S_S8x128 (constant S_ .f32 0xFF800000#32)) (Host.reduce FloatOps.maximumf l (constant S_ .f32 0xFF800000#32) reducesTo_S8x128x50000_S8x128_d2 h_S_))

/-- The logits' exponentials, each logit lowered by the greatest of its position. -/
def expR (l : FVec Ideal S8x128x50000 .f32) : FVec Ideal S8x128x50000 .f32 :=
  (Host.exp (subf l (broadcastInDim S8x128x50000 ![0, 1, 2] bcast_S8x128x1_S8x128x50000_0_1_2 (broadcastInDim S8x128x1 ![0, 1] bcast_S8x128_S8x128x1_0_1 (maxR l)))))

/-- Their sum at each position. -/
def totR (l : FVec Ideal S8x128x50000 .f32) : FVec Ideal S8x128 .f32 :=
  (Host.reduceAdd (expR l) (constant S_ .f32 0x00000000#32) reducesTo_S8x128x50000_S8x128_d2 h_S_)

/-- The softmax of the logits. -/
def softR (l : FVec Ideal S8x128x50000 .f32) : FVec Ideal S8x128x50000 .f32 :=
  (Host.divf (expR l) (broadcastInDim S8x128x50000 ![0, 1, 2] bcast_S8x128x1_S8x128x50000_0_1_2 (broadcastInDim S8x128x1 ![0, 1] bcast_S8x128_S8x128x1_0_1 (totR l))))

/-- Where each attention weight is added: batch, position and source token. -/
def idxR (src : IVec S8x400 32) : IVec S8x128x400x3 32 :=
  ((concatenate S8x128x400x3 3 [⟨S8x128x400x1, ((broadcastInDim S8x128x400x1 ![0, 1, 2] bcast_S8x128x400_S8x128x400x1_0_1_2 (broadcastInDim S8x128x400 ![0, 1, 2] bcast_S8x1x1_S8x128x400_0_1_2 (select (cmpi .slt (broadcastInDim S8x1x1 ![0] bcast_S8_S8x1x1_0 (iotaInDim S8 32 0)) (broadcastInDim S8x1x1 ![] bcast_S_S8x1x1 (constantI S_ 32 0#32))) (addi (broadcastInDim S8x1x1 ![0] bcast_S8_S8x1x1_0 (iotaInDim S8 32 0)) (broadcastInDim S8x1x1 ![] bcast_S_S8x1x1 (constantI S_ 32 8#32))) (broadcastInDim S8x1x1 ![0] bcast_S8_S8x1x1_0 (iotaInDim S8 32 0))))) : IVec S8x128x400x1 32)⟩, ⟨S8x128x400x1, ((broadcastInDim S8x128x400x1 ![0, 1, 2] bcast_S8x128x400_S8x128x400x1_0_1_2 (broadcastInDim S8x128x400 ![0, 1, 2] bcast_S1x128x1_S8x128x400_0_1_2 (select (cmpi .slt (broadcastInDim S1x128x1 ![1] bcast_S128_S1x128x1_1 (iotaInDim S128 32 0)) (broadcastInDim S1x128x1 ![] bcast_S_S1x128x1 (constantI S_ 32 0#32))) (addi (broadcastInDim S1x128x1 ![1] bcast_S128_S1x128x1_1 (iotaInDim S128 32 0)) (broadcastInDim S1x128x1 ![] bcast_S_S1x128x1 (constantI S_ 32 128#32))) (broadcastInDim S1x128x1 ![1] bcast_S128_S1x128x1_1 (iotaInDim S128 32 0))))) : IVec S8x128x400x1 32)⟩, ⟨S8x128x400x1, ((broadcastInDim S8x128x400x1 ![0, 1, 2] bcast_S8x128x400_S8x128x400x1_0_1_2 (broadcastInDim S8x128x400 ![0, 1, 2] bcast_S8x1x400_S8x128x400_0_1_2 (select (cmpi .slt (broadcastInDim S8x1x400 ![0, 2] bcast_S8x400_S8x1x400_0_2 src) (broadcastInDim S8x1x400 ![] bcast_S_S8x1x400 (constantI S_ 32 0#32))) (addi (broadcastInDim S8x1x400 ![0, 2] bcast_S8x400_S8x1x400_0_2 src) (broadcastInDim S8x1x400 ![] bcast_S_S8x1x400 (constantI S_ 32 50000#32))) (broadcastInDim S8x1x400 ![0, 2] bcast_S8x400_S8x1x400_0_2 src)))) : IVec S8x128x400x1 32)⟩] concatenates_S8x128x400x1_S8x128x400x1_S8x128x400x1_S8x128x400x3_d3 : IVec S8x128x400x3 32))

/-- The copy distribution: the attention weights added at their source tokens. -/
def copyR (attn : FVec Ideal S8x128x400 .f32) (src : IVec S8x400 32) : FVec Ideal S8x128x50000 .f32 :=
  (Host.scatterAdd scatter_S8x128x50000_S8x128x400x3_S8x128x400_n_012_012_3 (broadcastInDim S8x128x50000 ![] bcast_S_S8x128x50000 (constant S_ .f32 0x00000000#32)) (idxR src) attn)

/-- The logarithm of the mixture. -/
def mixR (g : FVec Ideal S8x128x1 .f32) (l s : FVec Ideal S8x128x50000 .f32) : FVec Ideal S8x128x50000 .f32 :=
  Host.log (addf (addf (mulf (broadcastInDim S8x128x50000 ![0, 1, 2] bcast_S8x128x1_S8x128x50000_0_1_2 g) (softR l)) (mulf (broadcastInDim S8x128x50000 ![0, 1, 2] bcast_S8x128x1_S8x128x50000_0_1_2 (subf (broadcastInDim S8x128x1 ![] bcast_S_S8x128x1 (constant S_ .f32 0x3F800000#32)) g)) s)) (broadcastInDim S8x128x50000 ![] bcast_S_S8x128x50000 (constant S_ .f32 0x2B8CBCCC#32)))

variable (m : (ℓ : Loc nD τ sig) → Buf (Elt Ideal) ℓ) (c : Dev nD)

/-- The gate of the arguments in memory. -/
def gateM : FVec Ideal S8x128x1 .f32 :=
  gateR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15))

set_option maxHeartbeats 4000000 in
/-- The first result, in parts. -/
theorem first_eq : Cert.ReferenceIdeal.Value.res_out0 (F := Ideal) m c
    = mixR (gateM m c) (logitR (m ((c.tc : Thread nD τ).loc main_arg0)) (m ((c.tc : Thread nD τ).loc main_arg5)) (m ((c.tc : Thread nD τ).loc main_arg6))
        (m ((c.tc : Thread nD τ).loc main_arg7)) (m ((c.tc : Thread nD τ).loc main_arg8)))
      (copyR (m ((c.tc : Thread nD τ).loc main_arg3)) (m ((c.tc : Thread nD τ).loc main_arg4))) := by
  unfold Cert.ReferenceIdeal.Value.res_out0 Cert.ReferenceIdeal.Value.res_main_v94 mixR gateM gateR logitR copyR softR totR expR maxR lnR sdR meanR idxR
  rfl

end Cert.ReferenceIdeal.Own

end
-- ==== Proof.RefAt.lean ====
/-
  THE REFERENCE'S PARTS AT AN INDEX: each part of the reference's results read down to sums and scalar functions.
-/
module

public import proofs.«01_k».proof.Proof.RefParts
public import Idealize.ShloMosaic.Lib.Pointwise
public import Idealize.ShloMosaic.Lib.Routing.OpsPair
public import Idealize.ShloMosaic.Lib.Tactic.CleanTypes

@[expose] public section

set_option maxRecDepth 16384

noncomputable section

namespace Cert.ReferenceIdeal.Own

open Cert.ReferenceIdeal Cert.ReferenceIdeal.Gen
open Idealize.ShloMosaic Idealize.ShloMosaic.TcCoe

/-- The gate at a position. -/
theorem gateR_at (x xt : FVec Ideal S8x128x512 .f32) (mem : FVec Ideal S8x400x512 .f32) (attn : FVec Ideal S8x128x400 .f32)
    (wh : FVec Ideal S1x512 .f32) (whb : FVec Ideal S1 .f32) (ws : FVec Ideal S1x512 .f32) (wsb : FVec Ideal S1 .f32)
    (wx : FVec Ideal S1x512 .f32) (wxb : FVec Ideal S1 .f32) (bp : FVec Ideal S1x1 .f32) (i : Fin 8) (t : Fin 128) :
    gateR x xt mem attn wh whb ws wsb wx wxb bp (ix3 i t 0) = Ideal.div 1 (1 + Ideal.exp
      (-(∑ d, (∑ s, attn (ix3 i t s) * mem (ix3 i s d)) * wh (ix2 0 d) + whb (ix1 0) + ∑ d, x (ix3 i t d) * ws (ix2 0 d) + wsb (ix1 0)
        + ∑ d, xt (ix3 i t d) * wx (ix2 0 d) + wxb (ix1 0) + bp (ix2 0 0)))) := by
  pointwise [gateR]

/-- The mean of row `t` of batch `i`. -/
def mean (x : FVec Ideal S8x128x512 .f32) (i : Fin 8) (t : Fin 128) : EReal :=
  Ideal.div (∑ d, x (ix3 i t d)) (Ideal.ofBits .f32 1140850688#32)

/-- The layer norm at an index. -/
theorem lnR_at (x : FVec Ideal S8x128x512 .f32) (a b : FVec Ideal S512 .f32) (i : Fin 8) (t : Fin 128) (d : Fin 512) :
    lnR x a b (ix3 i t d) = Ideal.div (a (ix1 d) * (x (ix3 i t d) - mean x i t))
        (Ideal.sqrt
            (if 0 < Ideal.ofBits FTy.f32 1140850688#32 - FloatOps.sitofp (F := Ideal) FTy.f32 0#32 then
              Ideal.div (∑ e, (x (ix3 i t e) - mean x i t) * (x (ix3 i t e) - mean x i t))
                (Ideal.ofBits FTy.f32 1140850688#32 - FloatOps.sitofp (F := Ideal) FTy.f32 0#32)
            else id (constant (F := Ideal) S_ FTy.f32 2143289344#32) ix0) +
          Ideal.ofBits FTy.f32 897988541#32) + b (ix1 d) := by
  pointwise [lnR, sdR, meanR, mean]

/-- A logit. -/
theorem logitR_at (x : FVec Ideal S8x128x512 .f32) (a b : FVec Ideal S512 .f32) (w : FVec Ideal S50000x512 .f32) (pb : FVec Ideal S50000 .f32)
    (i : Fin 8) (t : Fin 128) (v : Fin 50000) :
    logitR x a b w pb (ix3 i t v) = ∑ d, lnR x a b (ix3 i t d) * w (ix2 v d) + pb (ix1 v) := by
  pointwise [logitR]

/-- A sum along the last axis, of any length. -/
theorem sum_last {n : ℕ} {u : Shape} (x : FVec Ideal ⟨3, ![8, 128, n]⟩ .f32) (h : (⟨3, ![8, 128, n]⟩ : Shape).ReducesTo [2] S8x128) (hu : 0 < u.numel) (i : Fin 8) (t : Fin 128) :
    Host.reduceAdd x (constant u .f32 0x00000000#32) h hu (ix2 i t) = ∑ k : Fin n, x (ix3 i t k) := by
  pointwise []

/-- The greatest along the last axis, of any length. -/
theorem max_last {n : ℕ} {u : Shape} (x : FVec Ideal ⟨3, ![8, 128, n]⟩ .f32) (h : (⟨3, ![8, 128, n]⟩ : Shape).ReducesTo [2] S8x128) (hu : 0 < u.numel) (i : Fin 8) (t : Fin 128) :
    Host.reduce (FloatOps.maximumf (F := Ideal)) x (constant u .f32 0xFF800000#32) h hu (ix2 i t)
      = Finset.univ.fold max (Ideal.ofBits .f32 0xFF800000#32) fun k : Fin n => x (ix3 i t k) := by
  pointwise []

/-- The greatest of two vectors, at an index. -/
theorem max_at {s : Shape} (a b : FVec Ideal s .f32) (j : s.Idx) : maximumf a b j = max (a j) (b j) := rfl

/-- The greatest logit of a position. -/
theorem maxR_at (l : FVec Ideal S8x128x50000 .f32) (i : Fin 8) (t : Fin 128) :
    maxR l (ix2 i t) = max (Ideal.ofBits .f32 0xFF800000#32) (Finset.univ.fold max (Ideal.ofBits .f32 0xFF800000#32) fun k => l (ix3 i t k)) := by
  unfold maxR
  rw [max_at, max_last]
  rfl

/-- A logit's exponential. -/
theorem expR_at (l : FVec Ideal S8x128x50000 .f32) (i : Fin 8) (t : Fin 128) (v : Fin 50000) :
    expR l (ix3 i t v) = Ideal.exp (l (ix3 i t v) - maxR l (ix2 i t)) := by
  pointwise [expR]

/-- Their sum. -/
theorem totR_at (l : FVec Ideal S8x128x50000 .f32) (i : Fin 8) (t : Fin 128) :
    totR l (ix2 i t) = ∑ v, Ideal.exp (l (ix3 i t v) - maxR l (ix2 i t)) :=
  (sum_last (expR l) reducesTo_S8x128x50000_S8x128_d2 h_S_ i t).trans (Finset.sum_congr rfl fun v _ => expR_at l i t v)

/-- The softmax at an index. -/
theorem softR_at (l : FVec Ideal S8x128x50000 .f32) (i : Fin 8) (t : Fin 128) (v : Fin 50000) :
    softR l (ix3 i t v) = Ideal.div (Ideal.exp (l (ix3 i t v) - maxR l (ix2 i t))) (∑ v, Ideal.exp (l (ix3 i t v) - maxR l (ix2 i t))) := by
  rw [← totR_at, ← expR_at]
  pointwise [softR]

/-- The mixture at an index. -/
theorem mixR_at (g : FVec Ideal S8x128x1 .f32) (l s : FVec Ideal S8x128x50000 .f32) (i : Fin 8) (t : Fin 128) (v : Fin 50000) :
    mixR g l s (ix3 i t v) = Ideal.log (g (ix3 i t 0) * softR l (ix3 i t v) + (1 - g (ix3 i t 0)) * s (ix3 i t v) + Ideal.ofBits .f32 730643660#32) := by
  pointwise [mixR]

/-- Where an attention weight is added, on each of the three axes: its own batch and position, and its source token. -/
theorem idxR_at (src : IVec S8x400 32) (i : Fin 8) (t : Fin 128) (s : Fin 400) (k : Fin 3) :
    idxR src (ix4 i t s k) = if k.val < 1 then
      Scalar.select (IntOp.cmpi CmpIPredicate.slt (BitVec.ofNat 32 ↑i) 0#32) (IntOp.addi (BitVec.ofNat 32 ↑i) 8#32) (BitVec.ofNat 32 ↑i)
    else if k.val - 1 < 1 then
        Scalar.select (IntOp.cmpi CmpIPredicate.slt (BitVec.ofNat 32 ↑t) 0#32) (IntOp.addi (BitVec.ofNat 32 ↑t) 128#32) (BitVec.ofNat 32 ↑t)
      else
        Scalar.select (IntOp.cmpi CmpIPredicate.slt (src (ix2 i s)) 0#32) (IntOp.addi (src (ix2 i s)) 50000#32) (src (ix2 i s)) := by
  pointwise [idxR]
  split <;> [rfl; (split <;> rfl)]

end Cert.ReferenceIdeal.Own

end
-- ==== Proof.RefCopy.lean ====
/-
  THE REFERENCE'S COPY DISTRIBUTION AT AN INDEX: the sum of the attention weights whose source token is the vocabulary entry.
-/
module

public import proofs.«01_k».proof.Proof.RefAt

@[expose] public section

set_option maxRecDepth 16384

noncomputable section

namespace Cert.ReferenceIdeal.Own

open Cert.ReferenceIdeal Cert.ReferenceIdeal.Gen
open Idealize.ShloMosaic Idealize.ShloMosaic.TcCoe Idealize.ShloMosaic.Routing

/-- The index a weight's coordinate `q` is read at. -/
theorem copy_start (idx : IVec S8x128x400x3 32) (i : Fin 8) (t : Fin 128) (s : Fin 400) (q : Fin 3) :
    (scatter_S8x128x50000_S8x128x400x3_S8x128x400_n_012_012_3).start (ix3 i t s) idx q = (idx (ix4 i t s q)).toInt := by
  have hm : q ∈ (scatter_S8x128x50000_S8x128x400x3_S8x128x400_n_012_012_3).scatterDimsToOperandDims := by
    show q ∈ ([0, 1, 2] : List (Fin 3)); fin_cases q <;> simp
  unfold ScatterDims.start
  rw [dif_pos hm]
  congr 2
  funext b
  fin_cases q <;> fin_cases b <;> rfl

/-- A weight's update has no window. -/
theorem copy_window (i : Fin 8) (t : Fin 128) (s : Fin 400) (q : Fin 3) :
    (scatter_S8x128x50000_S8x128x400x3_S8x128x400_n_012_012_3).window (ix3 i t s) q = 0 := by
  unfold ScatterDims.window
  fin_cases q <;> rfl

/-- A word that is not negative is itself after the wrap of a negative index. -/
theorem wrap_nonneg (w k : BitVec 32) (h : 0 ≤ w.toInt) : Scalar.select (IntOp.cmpi CmpIPredicate.slt w 0#32) (IntOp.addi w k) w = w := by
  have : ¬ w.toInt < 0 := by omega
  simp [Scalar.select, IntOp.cmpi, BitVec.slt, this]

/-- The copy distribution at an index: the weights whose source token is `v`, added up. -/
theorem copyR_at (attn : FVec Ideal S8x128x400 .f32) (src : IVec S8x400 32) (hs : ∀ j, 0 ≤ (src j).toInt) (i : Fin 8) (t : Fin 128) (v : Fin 50000) :
    copyR attn src (ix3 i t v) = ∑ s : Fin 400, if (src (ix2 i s)).toInt = v.val then attn (ix3 i t s) else 0 := by
  have land : ∀ (i' : Fin 8) (t' : Fin 128) (s : Fin 400),
      (scatter_S8x128x50000_S8x128x400x3_S8x128x400_n_012_012_3).resultIdx? (ix3 i' t' s) (idxR src) = some (ix3 i t v)
        ↔ (i' = i ∧ t' = t ∧ (src (ix2 i' s)).toInt = v.val) := by
    intro i' t' s
    have hi : (BitVec.ofNat 32 i'.val).toInt = i'.val := by
      have := i'.isLt; rw [BitVec.toInt_eq_toNat_cond, BitVec.toNat_ofNat, if_pos] <;> omega
    have ht : (BitVec.ofNat 32 t'.val).toInt = t'.val := by
      have := t'.isLt; rw [BitVec.toInt_eq_toNat_cond, BitVec.toNat_ofNat, if_pos] <;> omega
    have h0 : (idxR src (ix4 i' t' s 0)).toInt = i'.val := by
      rw [idxR_at, if_pos (by decide), wrap_nonneg _ _ (by rw [hi]; omega), hi]
    have h1 : (idxR src (ix4 i' t' s 1)).toInt = t'.val := by
      rw [idxR_at, if_neg (by decide), if_pos (by decide), wrap_nonneg _ _ (by rw [ht]; omega), ht]
    have h2 : (idxR src (ix4 i' t' s 2)).toInt = (src (ix2 i' s)).toInt := by
      rw [idxR_at, if_neg (by decide), if_neg (by decide), wrap_nonneg _ _ (hs _)]
    rw [resultIdx?_eq_some]
    constructor
    · intro h
      have e0 := h 0
      have e1 := h 1
      have e2 := h 2
      rw [copy_start, copy_window] at e0 e1 e2
      rw [h0] at e0
      rw [h1] at e1
      rw [h2] at e2
      refine ⟨Fin.ext ?_, Fin.ext ?_, ?_⟩
      · change (i'.val : Int) + 0 = i.val at e0; omega
      · change (t'.val : Int) + 0 = t.val at e1; omega
      · change _ + (0 : Int) = v.val at e2; omega
    · rintro ⟨rfl, rfl, h⟩ q
      rw [copy_start, copy_window]
      fin_cases q
      · exact (congrArg (· + _) h0).trans (Int.add_zero _)
      · exact (congrArg (· + _) h1).trans (Int.add_zero _)
      · exact (congrArg (· + _) (h2.trans h)).trans (Int.add_zero _)
  have e : copyR attn src (ix3 i t v) = Ideal.ofBits .f32 0x00000000#32 + ∑ j ∈ Finset.univ.filter (fun j =>
      (scatter_S8x128x50000_S8x128x400x3_S8x128x400_n_012_012_3).resultIdx? j (idxR src) = some (ix3 i t v)), attn j := rfl
  have z : Ideal.ofBits .f32 0x00000000#32 = 0 := by simp [Ideal.ofBits, Ideal.ieee]
  rw [e, z, zero_add, ← Finset.sum_filter]
  symm
  refine Finset.sum_bij (fun s _ => ix3 i t s) ?_ ?_ ?_ ?_
  · intro s hs
    rw [Finset.mem_filter] at hs ⊢
    exact ⟨Finset.mem_univ _, (land i t s).2 ⟨rfl, rfl, hs.2⟩⟩
  · intro a _ b _ h
    exact congrFun h 2
  · intro j hj
    rw [Finset.mem_filter] at hj
    obtain ⟨i', t', s, rfl⟩ : ∃ (i' : Fin 8) (t' : Fin 128) (s : Fin 400), ix3 i' t' s = j := ⟨j 0, j 1, j 2, by
      funext q; fin_cases q <;> rfl⟩
    obtain ⟨rfl, rfl, h⟩ := (land i' t' s).1 hj.2
    exact ⟨s, Finset.mem_filter.2 ⟨Finset.mem_univ _, h⟩, rfl⟩
  · intro s _
    rfl

end Cert.ReferenceIdeal.Own

end
-- ==== Proof.Arith.lean ====
/-
  THE ARITHMETIC THAT THE COMPARISON NEEDS, over the extended reals: a divisor that is never zero, sums and quotients of real numbers, the
  greatest of finitely many real numbers, and that a softmax does not depend on what is subtracted from its logits.
-/
module

public import Idealize.ShloMosaic.Lib.IdealHost
public import Idealize.ShloMosaic.Lib.Pointwise

@[expose] public section

noncomputable section

namespace Cert.Arith

open Idealize.ShloMosaic

/-- A real number, not an infinity. -/
def Real' (x : EReal) : Prop := ∃ r : ℝ, x = (r : EReal)

theorem Real'.add {x y : EReal} : Real' x → Real' y → Real' (x + y)
  | ⟨r, hr⟩, ⟨s, hs⟩ => ⟨r + s, by rw [hr, hs, EReal.coe_add]⟩

theorem Real'.sub {x y : EReal} : Real' x → Real' y → Real' (x - y)
  | ⟨r, hr⟩, ⟨s, hs⟩ => ⟨r - s, by rw [hr, hs, EReal.coe_sub]⟩

theorem Real'.mul {x y : EReal} : Real' x → Real' y → Real' (x * y)
  | ⟨r, hr⟩, ⟨s, hs⟩ => ⟨r * s, by rw [hr, hs, EReal.coe_mul]⟩

/-- A finite sum of real numbers, as an extended real, is their sum. -/
theorem coe_sum {n : ℕ} (f : Fin n → ℝ) : ∑ k, (f k : EReal) = ((∑ k, f k : ℝ) : EReal) := by
  induction n with
  | zero => simp
  | succ n ih => rw [Fin.sum_univ_succ, Fin.sum_univ_succ, ih fun k => f k.succ, EReal.coe_add]

theorem Real'.sum {n : ℕ} {f : Fin n → EReal} (h : ∀ k, Real' (f k)) : Real' (∑ k, f k) := by
  choose r hr using h
  exact ⟨∑ k, r k, by rw [← coe_sum]; exact Finset.sum_congr rfl fun k _ => hr k⟩

/-- A quotient of real numbers, the divisor not zero. -/
theorem div_coe (r : ℝ) {s : ℝ} (hs : s ≠ 0) : Ideal.div (r : EReal) (s : EReal) = ((r / s : ℝ) : EReal) := by
  unfold Ideal.div
  rw [if_neg (by exact_mod_cast hs), ← EReal.coe_inv, ← EReal.coe_mul, div_eq_mul_inv]

theorem Real'.div {x : EReal} : Real' x → ∀ {s : ℝ}, s ≠ 0 → Real' (Ideal.div x (s : EReal))
  | ⟨r, hr⟩, s, hs => ⟨r / s, by rw [hr, div_coe r hs]⟩

/-- A number below the positive infinity in absolute value is real. -/
theorem real_of_abs {x : EReal} (h : max x (-x) < ⊤) : Real' x := by
  induction x using EReal.rec with
  | bot => simp at h
  | coe r => exact ⟨r, rfl⟩
  | top => simp at h

/-- A square root and a positive number never add up to zero. -/
theorem sqrt_add_ne_zero (z : EReal) {e : ℝ} (he : 0 < e) : Ideal.sqrt z + (e : EReal) ≠ 0 := by
  induction z using EReal.rec with
  | bot => simp
  | coe r =>
    rw [Ideal.sqrt_coe]
    split
    · simp
    · have := Real.sqrt_nonneg r
      rw [← EReal.coe_add]
      exact_mod_cast (by positivity : Real.sqrt r + e ≠ 0)
  | top => simp

/-- The square root of a number that is real and not negative, and a positive number, add up to a positive real number. -/
theorem sqrt_add_real {r : ℝ} (hr : 0 ≤ r) {e : ℝ} (he : 0 < e) : ∃ s : ℝ, s ≠ 0 ∧ Ideal.sqrt (r : EReal) + (e : EReal) = (s : EReal) := by
  have := Real.sqrt_nonneg r
  exact ⟨Real.sqrt r + e, by positivity, by rw [Ideal.sqrt_coe, if_neg (not_lt.mpr hr), EReal.coe_add]⟩

/-- A number's square is not negative. -/
theorem sq_nonneg (x : EReal) : 0 ≤ x * x := by
  induction x using EReal.rec with
  | bot => simp
  | coe r => exact_mod_cast mul_self_nonneg r
  | top => simp

/-- The square of a number that is not real is the positive infinity. -/
theorem sq_top {x : EReal} (h : ¬ Real' x) : x * x = ⊤ := by
  induction x using EReal.rec with
  | bot => simp
  | coe r => exact absurd ⟨r, rfl⟩ h
  | top => simp

/-- A deviation by the root of the mean square deviation is real whatever the deviations: where one is infinite the root is, and the quotient
    is zero. -/
theorem scaled_real {n : ℕ} (D : Fin n → EReal) {N : ℝ} (hN : 0 < N) {e : ℝ} (he : 0 < e) (d : Fin n) :
    Real' (D d * Ideal.div 1 (Ideal.sqrt (Ideal.div (∑ k, D k * D k) (N : EReal)) + (e : EReal))) := by
  by_cases h : ∀ k, Real' (D k)
  · choose r hr using h
    have hv : Ideal.div (∑ k, D k * D k) (N : EReal) = (((∑ k, r k * r k) / N : ℝ) : EReal) := by
      rw [← div_coe _ hN.ne', ← coe_sum]
      simp only [hr, EReal.coe_mul]
    obtain ⟨s, hs, hsq⟩ := sqrt_add_real (r := (∑ k, r k * r k) / N) (div_nonneg (Finset.sum_nonneg fun k _ => mul_self_nonneg _) hN.le) he
    rw [hv, hsq]
    exact Real'.mul ⟨_, hr d⟩ (Real'.div ⟨1, rfl⟩ hs)
  · obtain ⟨k, hk⟩ := not_forall.mp h
    have ht : ∑ k, D k * D k = ⊤ := by
      refine top_le_iff.mp ?_
      rw [← sq_top hk]
      exact Finset.single_le_sum (f := fun k => D k * D k) (fun k _ => sq_nonneg _) (Finset.mem_univ k)
    have hv : Ideal.div ⊤ (N : EReal) = ⊤ := by
      unfold Ideal.div
      rw [if_neg (by exact_mod_cast hN.ne'), ← EReal.coe_inv]
      exact EReal.top_mul_coe_of_pos (inv_pos.mpr hN)
    have hz : Ideal.div 1 (Ideal.sqrt ⊤ + (e : EReal)) = 0 := by
      rw [show Ideal.sqrt ⊤ = ⊤ from rfl, EReal.top_add_coe]
      simp [Ideal.div]
    rw [ht, hv, hz, mul_zero]
    exact ⟨0, rfl⟩

/-- The greatest of some real numbers, of which there is one, is a real number. -/
theorem fold_max_real {n : ℕ} {f : Fin n → EReal} (h : ∀ k, Real' (f k)) (k₀ : Fin n) : Real' (max ⊥ (Finset.univ.fold max ⊥ f)) := by
  have h1 : Finset.univ.fold max ⊥ f < ⊤ := (Finset.fold_max_lt _).mpr ⟨bot_lt_top, fun k _ => by
    obtain ⟨r, hr⟩ := h k
    rw [hr]
    exact EReal.coe_lt_top r⟩
  have h2 : ⊥ < Finset.univ.fold max ⊥ f := by
    obtain ⟨r, hr⟩ := h k₀
    exact lt_of_lt_of_le (by rw [hr]; exact EReal.bot_lt_coe r) ((Finset.le_fold_max _).mpr (.inr ⟨k₀, Finset.mem_univ _, le_rfl⟩))
  rw [max_eq_right bot_le]
  lift Finset.univ.fold max ⊥ f to ℝ using ⟨h1.ne, h2.ne'⟩ with r
  exact ⟨r, rfl⟩

/-- A softmax of real logits is the same whatever real number is subtracted from all of them. -/
theorem softmax_shift {n : ℕ} {l : Fin n → EReal} (h : ∀ k, Real' (l k)) {M : EReal} (hM : Real' M) (v : Fin n) :
    Ideal.div 1 (∑ u, Ideal.exp (l u)) * Ideal.exp (l v) = Ideal.div (Ideal.exp (l v - M)) (∑ u, Ideal.exp (l u - M)) := by
  choose r hr using h
  obtain ⟨μ, rfl⟩ := hM
  have e1 (u : Fin n) : Ideal.exp (l u) = ((Real.exp (r u) : ℝ) : EReal) := by rw [hr, Ideal.exp_coe]
  have e2 (u : Fin n) : Ideal.exp (l u - (μ : EReal)) = ((Real.exp (r u - μ) : ℝ) : EReal) := by rw [hr, ← EReal.coe_sub, Ideal.exp_coe]
  simp only [e1, e2, coe_sum]
  have p1 : 0 < ∑ u, Real.exp (r u) := Finset.sum_pos (fun u _ => Real.exp_pos _) ⟨v, Finset.mem_univ v⟩
  have p2 : 0 < ∑ u, Real.exp (r u - μ) := Finset.sum_pos (fun u _ => Real.exp_pos _) ⟨v, Finset.mem_univ v⟩
  have e3 : ∑ u, Real.exp (r u - μ) = (∑ u, Real.exp (r u)) / Real.exp μ := by
    rw [Finset.sum_div]
    exact Finset.sum_congr rfl fun u _ => Real.exp_sub _ _
  rw [← EReal.coe_one, div_coe 1 p1.ne', div_coe _ p2.ne', ← EReal.coe_mul, e3, Real.exp_sub]
  congr 1
  have := Real.exp_ne_zero μ
  field_simp

end Cert.Arith

end
-- ==== Proof.Bridge.lean ====
/-
  THE KERNEL'S RESULTS ARE THE REFERENCE'S. The gate differs in the order of its sums; the layer norm in a division taken as a product with
  the reciprocal; the softmax in that the kernel subtracts no maximum; the copied weights are a masked sum in the one and a scatter in the other.
-/
module

public import proofs.«01_k».proof.Proof.Chain
public import proofs.«01_k».proof.Proof.RefAt
public import proofs.«01_k».proof.Proof.RefCopy
public import proofs.«01_k».proof.Proof.Arith

@[expose] public section

noncomputable section

namespace Cert.Bridge

open Cert.KernelIdeal Cert.KernelIdeal.Own Cert.ReferenceIdeal.Own Cert.Arith
open Idealize.ShloMosaic

/-- The number of features. -/
theorem bits_512 : Ideal.ofBits .f32 1140850688#32 = ((512 : ℝ) : EReal) := by
  simp [Ideal.ofBits, Ideal.ieee, -EReal.coe_mul]; norm_num

/-- What is added to the deviation is positive. -/
theorem bits_eps : ∃ e : ℝ, 0 < e ∧ Ideal.ofBits .f32 897988541#32 = (e : EReal) := by
  refine ⟨_, ?_, by simp only [Ideal.ofBits, Ideal.ieee]; simp [-EReal.coe_mul]; rfl⟩
  norm_num

/-- The negative infinity. -/
theorem bits_bot : Ideal.ofBits .f32 0xFF800000#32 = ⊥ := by simp [Ideal.ofBits, Ideal.ieee]

/-- The word zero as a float. -/
theorem word_zero : (FloatOps.sitofp (F := Ideal) FTy.f32 0#32 : EReal) = 0 := by
  show (((0#32 : BitVec 32).toInt : ℝ) : EReal) = 0
  simp

/-- The gates agree. -/
theorem gate_eq (x xt : FVec Ideal S8x128x512 .f32) (mem : FVec Ideal S8x400x512 .f32) (attn : FVec Ideal S8x128x400 .f32)
    (wh : FVec Ideal S1x512 .f32) (whb : FVec Ideal S1 .f32) (ws : FVec Ideal S1x512 .f32) (wsb : FVec Ideal S1 .f32)
    (wx : FVec Ideal S1x512 .f32) (wxb : FVec Ideal S1 .f32) (bp : FVec Ideal S1x1 .f32) (i : Fin 8) (t : Fin 128) :
    kGate x xt mem attn wh ws wx (biasK whb wsb wxb bp) i t = gateR x xt mem attn wh whb ws wsb wx wxb bp (ix3 i t (0 : Fin 1)) := by
  rw [gateR_at]
  unfold kGate biasK
  rw [zero_sub, Finset.sum_add_distrib, Finset.sum_add_distrib]
  congr 4
  abel

/-- The normalised rows agree: the divisor is never zero. -/
theorem norm_eq (x : FVec Ideal S8x128x512 .f32) (a b : FVec Ideal S512 .f32) (i : Fin 8) (t : Fin 128) (d : Fin 512) :
    kNorm x a b i t d = lnR x a b (ix3 i t d) := by
  obtain ⟨e, he, hb⟩ := bits_eps
  rw [lnR_at, word_zero, sub_zero, if_pos (by rw [bits_512]; exact_mod_cast (by norm_num : (0 : ℝ) < 512)), hb]
  unfold kNorm
  rw [hb, ← mul_assoc, Ideal.mul_one_div (sqrt_add_ne_zero _ he)]
  rfl

/-- The logits agree. -/
theorem logit_eq (x : FVec Ideal S8x128x512 .f32) (a b : FVec Ideal S512 .f32) (w : FVec Ideal S50000x512 .f32) (pb : FVec Ideal S50000 .f32)
    (i : Fin 8) (t : Fin 128) (v : Fin 50000) : kLogit x a b w pb i t v = logitR x a b w pb (ix3 i t v) := by
  rw [logitR_at]
  unfold kLogit
  simp only [norm_eq, mul_comm]

/-- Of real parameters the logits are real, whatever the decoder states. -/
theorem logit_real (x : FVec Ideal S8x128x512 .f32) {a b : FVec Ideal S512 .f32} {w : FVec Ideal S50000x512 .f32} {pb : FVec Ideal S50000 .f32}
    (ha : ∀ j, Real' (a j)) (hb : ∀ j, Real' (b j)) (hw : ∀ j, Real' (w j)) (hp : ∀ j, Real' (pb j))
    (i : Fin 8) (t : Fin 128) (v : Fin 50000) : Real' (kLogit x a b w pb i t v) := by
  have hn (d : Fin 512) : Real' (kNorm x a b i t d) := by
    obtain ⟨e, he, hbits⟩ := bits_eps
    unfold kNorm
    rw [hbits, bits_512]
    exact ((ha _).mul (scaled_real (fun d => x (ix3 i t d) - kMean x i t) (by norm_num) he d)).add (hb _)
  exact (Real'.sum fun k => (hw _).mul (hn k)).add (hp _)

/-- The mixtures agree, of real parameters and sources that are not negative. -/
theorem mix_eq (x : FVec Ideal S8x128x512 .f32) {a b : FVec Ideal S512 .f32} {w : FVec Ideal S50000x512 .f32} {pb : FVec Ideal S50000 .f32}
    (ha : ∀ j, Real' (a j)) (hb : ∀ j, Real' (b j)) (hw : ∀ j, Real' (w j)) (hp : ∀ j, Real' (pb j))
    (attn : FVec Ideal S8x128x400 .f32) {src : IVec S8x400 32} (hs : ∀ j, 0 ≤ (src j).toInt) (g : FVec Ideal S8x128x1 .f32)
    (i : Fin 8) (t : Fin 128) (v : Fin 50000) :
    kMix (g (ix3 i t (0 : Fin 1))) (kLogit x a b w pb i t) (kCopy attn src i t v) v = mixR g (logitR x a b w pb) (copyR attn src) (ix3 i t v) := by
  have hl := logit_real x ha hb hw hp i t
  have hM : Real' (maxR (logitR x a b w pb) (ix2 i t)) := by
    rw [maxR_at, bits_bot]
    simp only [← logit_eq]
    exact fold_max_real hl v
  rw [mixR_at, softR_at, copyR_at attn src hs]
  simp only [← logit_eq]
  rw [← softmax_shift hl hM v, ← mul_assoc]
  rfl

end Cert.Bridge

end
-- ==== Proof.Admissible.lean ====
/-
  THE PRECONDITION, OPENED: the layer norm's scale and shift and the projection's weights and biases are real numbers, and no source entry is
  negative.
-/
module

public import proofs.«01_k».proof.Pre_finite_and_nonnegative
public import proofs.«01_k».proof.Proof.Arith
public import Idealize.ShloMosaic.Lib.ReduceAll
public import Idealize.ShloMosaic.Lib.Affine
public import Idealize.ShloMosaic.Lib.Decide

@[expose] public section

noncomputable section

namespace Cert.Admissible

open Cert.Pre_finite_and_nonnegative Cert.Arith
open Idealize.ShloMosaic

/-- The shape relations that the precondition states. -/
instance facts : Cert.Pre_finite_and_nonnegative.Facts where
  h_S_ := by decide
  bcast_S_S512 := by decide
  reducesTo_S512_S_d0 := by decide
  bcast_S_S50000x512 := by decide
  reducesTo_S50000x512_S_d0_1 := by decide
  bcast_S_S50000 := by decide
  reducesTo_S50000_S_d0 := by decide
  bcast_S_S8x400 := by decide
  reducesTo_S8x400_S_d0_1 := by decide

/-- There is one index of the scalars. -/
instance : Subsingleton S_.Idx := ⟨fun _ _ => funext fun a => a.elim0⟩

/-- Two bits whose conjunction is one are one. -/
theorem both {a b : BitVec 1} (h : IntOp.andi a b = 1#1) : a = 1#1 ∧ b = 1#1 := by
  revert a b
  decide

/-- An array every element of which lies below the infinity in absolute value holds real numbers. -/
theorem all_real {s : Shape} {axes : List (Fin s.rank)} (x : FVec Ideal s .f32) (hb : S_.BroadcastsInDim s ![]) (h : s.ReducesTo axes S_) (hu : 0 < S_.numel)
    (e : Host.reduce IntOp.andi (cmpf .olt (Host.absf x) (broadcastInDim s ![] hb (constant (F := Ideal) S_ .f32 0x7F800000#32))) (constantI S_ 1 1#1) h hu ix0 = 1#1)
    (j : s.Idx) : Real' (x j) := by
  have e' := Host.reduce_andi_all _ _ h hu ix0 e j
  change Ideal.cmp .olt (max (x j : EReal) (-(x j : EReal))) (Ideal.ofBits .f32 0x7F800000#32) = 1#1 at e'
  rw [show Ideal.ofBits .f32 0x7F800000#32 = ⊤ by simp [Ideal.ofBits, Ideal.ieee]] at e'
  refine real_of_abs ?_
  by_contra hn
  simp [Ideal.cmp, hn] at e'

/-- An array no element of which compares below zero holds no negative word. -/
theorem all_nonneg {s : Shape} {axes : List (Fin s.rank)} (x : IVec s 32) (hb : S_.BroadcastsInDim s ![]) (h : s.ReducesTo axes S_) (hu : 0 < S_.numel)
    (e : Host.reduce IntOp.andi (cmpi .sge x (broadcastInDim s ![] hb (constantI S_ 32 0#32))) (constantI S_ 1 1#1) h hu ix0 = 1#1)
    (j : s.Idx) : 0 ≤ (x j).toInt := by
  have e' := Host.reduce_andi_all _ _ h hu ix0 e j
  change IntOp.cmpi .sge (x j) 0#32 = 1#1 at e'
  by_contra hn
  simp [IntOp.cmpi, BitVec.sle, hn] at e'

/-- What the precondition says. -/
theorem opened {x xt : FVec Ideal S8x128x512 .f32} {mem : FVec Ideal S8x400x512 .f32} {attn : FVec Ideal S8x128x400 .f32} {src : IVec S8x400 32}
    {a b : FVec Ideal S512 .f32} {w : FVec Ideal S50000x512 .f32} {pb : FVec Ideal S50000 .f32} {wh : FVec Ideal S1x512 .f32} {whb : FVec Ideal S1 .f32}
    {ws : FVec Ideal S1x512 .f32} {wsb : FVec Ideal S1 .f32} {wx : FVec Ideal S1x512 .f32} {wxb : FVec Ideal S1 .f32} {bp : FVec Ideal S1x1 .f32}
    (h : fn (F := Ideal) x xt mem attn src a b w pb wh whb ws wsb wx wxb bp = fun _ => 1#1) :
    (∀ j, Real' (a j)) ∧ (∀ j, Real' (b j)) ∧ (∀ j, Real' (w j)) ∧ (∀ j, Real' (pb j)) ∧ ∀ j, 0 ≤ (src j).toInt := by
  have e := congrFun h ix0
  unfold fn fn_part1 at e
  obtain ⟨e, h6⟩ := both e
  obtain ⟨e, h5⟩ := both e
  obtain ⟨e, h4⟩ := both e
  obtain ⟨h2, h3⟩ := both e
  exact ⟨all_real a _ _ _ h2, all_real b _ _ _ h3, all_real w _ _ _ h4, all_real pb _ _ _ h5, all_nonneg src _ _ _ h6⟩

end Cert.Admissible

end
-- ==== Proof.Agree.lean ====
/-
  THE TWO RUNS AGREE: what the kernel leaves in its two results, and what the reference leaves in its own, is one pair of arrays of the arguments.
-/
module

public import proofs.«01_k».proof.Proof.Bridge
public import proofs.«01_k».proof.Proof.Admissible
public import proofs.«01_k».proof.Proof.Frame
public import proofs.«01_k».proof.Proof.RefParts
public import proofs.«01_k».proof.Proof.Gen.ReferenceIdeal.Run

@[expose] public section

noncomputable section

namespace Cert.Agree

open Cert.KernelIdeal Cert.KernelIdeal.Own Cert.ReferenceIdeal.Own Cert.Arith Cert.Bridge
open Idealize.ShloMosaic Idealize.SL.Sem

/-- The second result: the probability of generating, of the arguments. -/
def second (x xt : FVec Ideal S8x128x512 .f32) (mem : FVec Ideal S8x400x512 .f32) (attn : FVec Ideal S8x128x400 .f32) (wh : FVec Ideal S1x512 .f32)
    (whb : FVec Ideal S1 .f32) (ws : FVec Ideal S1x512 .f32) (wsb : FVec Ideal S1 .f32) (wx : FVec Ideal S1x512 .f32) (wxb : FVec Ideal S1 .f32)
    (bp : FVec Ideal S1x1 .f32) : FVec Ideal S8x128x1 .f32 :=
  gateR x xt mem attn wh whb ws wsb wx wxb bp

/-- The first result: the mixture of the vocabulary's softmax and the copied attention, of a gate and the other arguments. -/
def first (g : FVec Ideal S8x128x1 .f32) (x : FVec Ideal S8x128x512 .f32) (attn : FVec Ideal S8x128x400 .f32) (src : IVec S8x400 32) (a b : FVec Ideal S512 .f32)
    (w : FVec Ideal S50000x512 .f32) (pb : FVec Ideal S50000 .f32) : FVec Ideal S8x128x50000 .f32 :=
  mixR g (logitR x a b w pb) (copyR attn src)

variable (m : (ℓ : Loc nD τ sig) → Buf (Elt Ideal) ℓ) (c : Dev nD)

/-- The second result of the launch's arguments. -/
def secondM : FVec Ideal S8x128x1 .f32 :=
  second (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15))

/-- The first result of the launch's arguments. -/
def firstM : FVec Ideal S8x128x50000 .f32 :=
  first (secondM m c) (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

/-- What the kernel's run leaves in the second result. -/
theorem reach_second {W : Valuation τ sig (Elt Ideal)} (h : Reach m proved 6 c W) :
    @Eq (FVec Ideal S8x128x1 .f32) (W (Proc.devRef .tc main_v19)) (secondM m c) := by
  obtain ⟨A, B, C, hA, hB, hC, rfl⟩ := h
  funext j
  obtain ⟨i, t, u, rfl⟩ : ∃ (i : Fin 8) (t : Fin 128) (u : Fin 1), j = ix3 i t u := ⟨_, _, _, eq_ix3 j⟩
  obtain rfl : u = (0 : Fin 1) := Subsingleton.elim _ _
  exact (second_after hA hB hC i t).trans (gate_eq _ _ _ _ _ _ _ _ _ _ _ i t)

/-- The precondition on the launch's arguments. -/
abbrev Given : Prop :=
  Cert.Pre_finite_and_nonnegative.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) = fun _ => 1#1

/-- What the kernel's run leaves in the first result. -/
theorem reach_first {W : Valuation τ sig (Elt Ideal)} (h : Reach m proved 6 c W) (hp : Given m c) :
    @Eq (FVec Ideal S8x128x50000 .f32) (W (Proc.devRef .tc main_v18)) (firstM m c) := by
  obtain ⟨A, B, C, hA, hB, hC, rfl⟩ := h
  obtain ⟨ha, hb, hw, hpb, hs⟩ := Cert.Admissible.opened hp
  funext j
  obtain ⟨i, t, v, rfl⟩ : ∃ (i : Fin 8) (t : Fin 128) (v : Fin 50000), j = ix3 i t v := ⟨_, _, _, eq_ix3 j⟩
  refine (first_after hA hB hC i t v).trans ?_
  refine Eq.trans ?_ (mix_eq _ ha hb hw hpb _ hs (secondM m c) i t v)
  exact congrArg (fun z => kMix z _ _ v) (gate_eq _ _ _ _ _ _ _ _ _ _ _ i t)

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.KernelFrame
public import proofs.«01_k».proof.Proof.Agree

@[expose] public section

noncomputable section

namespace Cert.Proof

open Idealize.ShloMosaic Idealize.SL.Sem

/-- A property of every argument, argument by argument. -/
theorem each {Q : Ref Cert.KernelIdeal.sig .tc → Prop} (h : ∀ b ∈ Cert.KernelIdeal.Own.argRefs, Q b) :
    Q Cert.KernelIdeal.main_arg0 ∧ Q Cert.KernelIdeal.main_arg1 ∧ Q Cert.KernelIdeal.main_arg2 ∧ Q Cert.KernelIdeal.main_arg3
      ∧ Q Cert.KernelIdeal.main_arg4 ∧ Q Cert.KernelIdeal.main_arg5 ∧ Q Cert.KernelIdeal.main_arg6 ∧ Q Cert.KernelIdeal.main_arg7
      ∧ Q Cert.KernelIdeal.main_arg8 ∧ Q Cert.KernelIdeal.main_arg9 ∧ Q Cert.KernelIdeal.main_arg10 ∧ Q Cert.KernelIdeal.main_arg11
      ∧ Q Cert.KernelIdeal.main_arg12 ∧ Q Cert.KernelIdeal.main_arg13 ∧ Q Cert.KernelIdeal.main_arg14 ∧ Q Cert.KernelIdeal.main_arg15 := by
  refine ⟨?_, ?_, ?_, ?_, ?_, ?_, ?_, ?_, ?_, ?_, ?_, ?_, ?_, ?_, ?_, ?_⟩ <;> exact h _ (by decide)

/-- The kernel's frame. -/
theorem frame_p : Cert.quiescent_Kernel := fun m g _ =>
  θ_run_mono (Cert.Kernel.Own.frame_run m g) fun _ ⟨h, hs⟩ => ⟨fun c => each (h c), hs⟩

/-- The idealized kernel's frame. -/
theorem frame_pi : Cert.quiescent_KernelIdeal := fun m g _ =>
  θ_run_mono (Cert.KernelIdeal.Own.frame_run (F := Ideal) m g) fun _ ⟨h, hs⟩ => ⟨fun c => each (h c), hs⟩

/-- The reference's frame: its run read at the arguments; it declares no counter. -/
theorem frame_ri : Cert.quiescent_ReferenceIdeal := fun m g _ =>
  θ_run_mono (Cert.ReferenceIdeal.Value.run (F := Ideal) m g) fun _ h =>
    ⟨fun c => (h c).2.2, sem_eq_zero_of_no_sems (by decide) _⟩

/-- The idealized kernel's frame holds under the precondition too. -/
theorem frame_pi_given : Cert.quiescent_KernelIdeal_pre_finite_and_nonnegative := fun m g _ => frame_pi m g trivial

/-- The reference's frame holds under the precondition too. -/
theorem frame_ri_given : Cert.quiescent_ReferenceIdeal_pre_finite_and_nonnegative := fun m g _ => frame_ri m g trivial

open Cert.Agree in
/-- The kernel's run: both results, and the arguments unchanged. -/
theorem kernel_side (m : (ℓ : Loc Cert.KernelIdeal.nD Cert.KernelIdeal.τ Cert.KernelIdeal.sig) → Buf (Elt Ideal) ℓ)
    (g : Dev Cert.KernelIdeal.nD → PrngReg) (hp : Cert.Pre_KernelIdeal_finite_and_nonnegative m) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v18) = firstM m c
        ∧ r.2.mem ((c.tc : Thread Cert.KernelIdeal.nD Cert.KernelIdeal.τ).loc Cert.KernelIdeal.main_v19) = secondM m c
        ∧ ∀ b ∈ Cert.KernelIdeal.Own.argRefs, r.2.mem ((c.tc : Thread Cert.KernelIdeal.nD Cert.KernelIdeal.τ).loc b)
            = m ((c.tc : Thread Cert.KernelIdeal.nD Cert.KernelIdeal.τ).loc b) := by
  refine θ_run_mono (Cert.KernelIdeal.Own.run m Cert.KernelIdeal.Own.meets g) fun r ⟨h, _⟩ c => ?_
  obtain ⟨W, hW, hr⟩ := h c
  exact ⟨(hr _ (Cert.KernelIdeal.Own.mem_uc Cert.KernelIdeal.main_v18 (by decide))).trans (reach_first m c hW (hp c)),
    (hr _ (Cert.KernelIdeal.Own.mem_uc Cert.KernelIdeal.main_v19 (by decide))).trans (reach_second m c hW),
    fun b hb => (hr _ (Cert.KernelIdeal.Own.mem_uc b (List.mem_append_left _ hb))).trans
      (hW.keep b (Cert.KernelIdeal.Own.args_unwritten b hb))⟩

/-- THE VALUE CLAIM: from arguments that agree, both results agree. -/
theorem algebraic : Cert.algebraic_KernelIdeal_ReferenceIdeal_pre_finite_and_nonnegative := by
  intro m g m' g' hp hm
  refine ⟨Cert.Agree.firstM m, Cert.Agree.secondM m, θ_run_mono (kernel_side m g hp) fun r h c => ⟨(h c).1, (h c).2.1, each (h c).2.2⟩,
    θ_run_mono (Cert.ReferenceIdeal.Value.run (F := Ideal) m' g') fun r h c => ?_⟩
  obtain ⟨h0, h1, h2, h3, h4, h5, h6, h7, h8, h9, h10, h11, h12, h13, h14, h15⟩ := hm c
  have e1 : Cert.ReferenceIdeal.Own.gateM m' c = Cert.Agree.secondM m c := by
    unfold Cert.ReferenceIdeal.Own.gateM Cert.Agree.secondM Cert.Agree.second
    rw [h0, h1, h2, h3, h9, h10, h11, h12, h13, h14, h15]
  have e0 := Cert.ReferenceIdeal.Own.first_eq m' c
  rw [e1, h0, h3, h4, h5, h6, h7, h8] at e0
  refine ⟨(h c).1.trans e0, Eq.trans ?_ e1, (h c).2.2⟩
  unfold Cert.ReferenceIdeal.Own.gateM Cert.ReferenceIdeal.Own.gateR
  exact (h c).2.1

/-- Everything claimed. -/
theorem claim : Cert.Claim :=
  ⟨Cert.Kernel.Gen.facts, Cert.KernelIdeal.Gen.facts, Cert.ReferenceIdeal.Gen.facts, Cert.Admissible.facts, frame_p, frame_pi, frame_pi_given,
    frame_ri, frame_ri_given, trivial, algebraic⟩

end Cert.Proof

end
